-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_within_capacity_KernelIdeal [hPre_routed_within_capacity_KernelIdeal : Cert.Pre_routed_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_routed_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_routed_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_within_capacity_ReferenceIdeal [hPre_routed_within_capacity_ReferenceIdeal : Cert.Pre_routed_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_routed_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_routed_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_within_capacity_KernelIdeal [hKernelIdeal : Cert.KernelIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_within_capacity_ReferenceIdeal [hReferenceIdeal : Cert.ReferenceIdeal.Facts] [hPre_routed_within_capacity_ReferenceIdeal : Cert.Pre_routed_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_within_capacity_KernelIdeal [hKernelIdeal : Cert.KernelIdeal.Facts] [hReferenceIdeal : Cert.ReferenceIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_within_capacity_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_within_capacity_KernelIdeal : Cert.Pre_routed_within_capacity_KernelIdeal.Facts) (hPre_routed_within_capacity_ReferenceIdeal : Cert.Pre_routed_within_capacity_ReferenceIdeal.Facts),
    quiescent_Kernel (hKernel := hKernel)
    ∧ quiescent_KernelIdeal (hKernelIdeal := hKernelIdeal)
    ∧ quiescent_KernelIdeal_pre_routed_within_capacity_KernelIdeal (hKernelIdeal := hKernelIdeal) (hPre_routed_within_capacity_KernelIdeal := hPre_routed_within_capacity_KernelIdeal)
    ∧ quiescent_ReferenceIdeal (hReferenceIdeal := hReferenceIdeal)
    ∧ quiescent_ReferenceIdeal_pre_routed_within_capacity_ReferenceIdeal (hReferenceIdeal := hReferenceIdeal) (hPre_routed_within_capacity_ReferenceIdeal := hPre_routed_within_capacity_ReferenceIdeal)
    ∧ preserves_Kernel_KernelIdeal
    ∧ algebraic_KernelIdeal_ReferenceIdeal_pre_routed_within_capacity_KernelIdeal (hKernelIdeal := hKernelIdeal) (hReferenceIdeal := hReferenceIdeal) (hPre_routed_within_capacity_KernelIdeal := hPre_routed_within_capacity_KernelIdeal)
-- ==== Pre_routed_within_capacity_KernelIdeal.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S32 : Shape := ⟨1, ![32]⟩
abbrev S1x32 : Shape := ⟨2, ![1, 32]⟩
abbrev S2048x32 : Shape := ⟨2, ![2048, 32]⟩
abbrev S_ : Shape := ⟨0, ![]⟩

class Facts : Prop where
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  natLt_1_32 : 1 < 32
  bcast_S_S2048x1 : S_.BroadcastsInDim S2048x1 (![] : Fin 0 → Fin S2048x1.rank)
  reducesTo_S2048x32_S32_d0 : S2048x32.ReducesTo [0] S32
  h_S_ : 0 < S_.numel
  bcast_S_S32 : S_.BroadcastsInDim S32 (![] : Fin 0 → Fin S32.rank)

variable [Facts]

def fn {F : FTy → Type} [FloatOps F] (main_arg0 : FVec F S2048x1024 .bf16) (main_arg1 : FVec F S1024x32 .bf16) (main_arg2 : IVec S2048x1 32) (main_arg3 : FVec F S8x1024x1024 .bf16) (main_arg4 : FVec F S1024x1024 .bf16) : IVec S2048x1 1 × IVec S2048x1 1 × IVec S32 1 :=
  let main_v0 : IVec S32 32 := iotaInDim S32 32 0
  let main_v1 : IVec S1x32 32 := broadcastInDim S1x32 ![1] bcast_S32_S1x32_1 main_v0
  let main_v2 : IVec S2048x32 32 := broadcastInDim S2048x32 ![0, 1] bcast_S2048x1_S2048x32_0_1 main_arg2
  let main_v3 : IVec S2048x32 32 := broadcastInDim S2048x32 ![0, 1] bcast_S1x32_S2048x32_0_1 main_v1
  let main_v4 : IVec S2048x32 1 := cmpi .eq main_v2 main_v3
  let main_v5 : IVec S2048x32 32 := (extui 32 · natLt_1_32) main_v4
  let main_c : IVec S_ 32 := constantI S_ 32 0#32
  let main_v6 : IVec S2048x1 32 := broadcastInDim S2048x1 ![] bcast_S_S2048x1 main_c
  let main_v7 : IVec S2048x1 1 := cmpi .sge main_arg2 main_v6
  let main_c_0 : IVec S_ 32 := constantI S_ 32 32#32
  let main_v8 : IVec S2048x1 32 := broadcastInDim S2048x1 ![] bcast_S_S2048x1 main_c_0
  let main_v9 : IVec S2048x1 1 := cmpi .slt main_arg2 main_v8
  let main_c_1 : IVec S_ 32 := constantI S_ 32 0#32
  let main_v10 : IVec S32 32 := (fun x v => Host.reduce IntOp.addi x v reducesTo_S2048x32_S32_d0 h_S_) main_v5 main_c_1
  let main_c_2 : IVec S_ 32 := constantI S_ 32 128#32
  let main_v11 : IVec S32 32 := broadcastInDim S32 ![] bcast_S_S32 main_c_2
  let main_v12 : IVec S32 1 := cmpi .sle main_v10 main_v11
  (main_v7, main_v9, main_v12)
-- ==== Pre_routed_within_capacity_ReferenceIdeal.lean ====
abbrev S8192x1024 : Shape := ⟨2, ![8192, 1024]⟩
abbrev S1024x32 : Shape := ⟨2, ![1024, 32]⟩
abbrev S8192x1 : Shape := ⟨2, ![8192, 1]⟩
abbrev S32x1024x1024 : Shape := ⟨3, ![32, 1024, 1024]⟩
abbrev S1024x1024 : Shape := ⟨2, ![1024, 1024]⟩
abbrev S32 : Shape := ⟨1, ![32]⟩
abbrev S1x32 : Shape := ⟨2, ![1, 32]⟩
abbrev S8192x32 : Shape := ⟨2, ![8192, 32]⟩
abbrev S_ : Shape := ⟨0, ![]⟩

class Facts : Prop where
  bcast_S32_S1x32_1 : S32.BroadcastsInDim S1x32 (![1] : Fin 1 → Fin S1x32.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  natLt_1_32 : 1 < 32
  bcast_S_S8192x1 : S_.BroadcastsInDim S8192x1 (![] : Fin 0 → Fin S8192x1.rank)
  reducesTo_S8192x32_S32_d0 : S8192x32.ReducesTo [0] S32
  h_S_ : 0 < S_.numel
  bcast_S_S32 : S_.BroadcastsInDim S32 (![] : Fin 0 → Fin S32.rank)

variable [Facts]

def fn {F : FTy → Type} [FloatOps F] (main_arg0 : FVec F S8192x1024 .bf16) (main_arg1 : FVec F S1024x32 .bf16) (main_arg2 : IVec S8192x1 32) (main_arg3 : FVec F S32x1024x1024 .bf16) (main_arg4 : FVec F S1024x1024 .bf16) : IVec S8192x1 1 × IVec S8192x1 1 × IVec S32 1 :=
  let main_v0 : IVec S32 32 := iotaInDim S32 32 0
  let main_v1 : IVec S1x32 32 := broadcastInDim S1x32 ![1] bcast_S32_S1x32_1 main_v0
  let main_v2 : IVec S8192x32 32 := broadcastInDim S8192x32 ![0, 1] bcast_S8192x1_S8192x32_0_1 main_arg2
  let main_v3 : IVec S8192x32 32 := broadcastInDim S8192x32 ![0, 1] bcast_S1x32_S8192x32_0_1 main_v1
  let main_v4 : IVec S8192x32 1 := cmpi .eq main_v2 main_v3
  let main_v5 : IVec S8192x32 32 := (extui 32 · natLt_1_32) main_v4
  let main_c : IVec S_ 32 := constantI S_ 32 0#32
  let main_v6 : IVec S8192x1 32 := broadcastInDim S8192x1 ![] bcast_S_S8192x1 main_c
  let main_v7 : IVec S8192x1 1 := cmpi .sge main_arg2 main_v6
  let main_c_0 : IVec S_ 32 := constantI S_ 32 32#32
  let main_v8 : IVec S8192x1 32 := broadcastInDim S8192x1 ![] bcast_S_S8192x1 main_c_0
  let main_v9 : IVec S8192x1 1 := cmpi .slt main_arg2 main_v8
  let main_c_1 : IVec S_ 32 := constantI S_ 32 0#32
  let main_v10 : IVec S32 32 := (fun x v => Host.reduce IntOp.addi x v reducesTo_S8192x32_S32_d0 h_S_) main_v5 main_c_1
  let main_c_2 : IVec S_ 32 := constantI S_ 32 128#32
  let main_v11 : IVec S32 32 := broadcastInDim S32 ![] bcast_S_S32 main_c_2
  let main_v12 : IVec S32 1 := cmpi .sle main_v10 main_v11
  (main_v7, main_v9, main_v12)
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S_ : Shape := ⟨0, ![]⟩
abbrev S2048 : Shape := ⟨1, ![2048]⟩
abbrev S32 : Shape := ⟨1, ![32]⟩
abbrev S1x32 : Shape := ⟨2, ![1, 32]⟩
abbrev S2048x32 : Shape := ⟨2, ![2048, 32]⟩
abbrev S1x128x1024 : Shape := ⟨3, ![1, 128, 1024]⟩
abbrev S4096x1024 : Shape := ⟨2, ![4096, 1024]⟩
abbrev S2048x4096 : Shape := ⟨2, ![2048, 4096]⟩
abbrev S4x8x128x1024 : Shape := ⟨4, ![4, 8, 128, 1024]⟩
abbrev S4 : Shape := ⟨1, ![4]⟩
abbrev S1 : Shape := ⟨1, ![1]⟩
abbrev S1x8x128x1024 : Shape := ⟨4, ![1, 8, 128, 1024]⟩
abbrev S8x128x1024 : Shape := ⟨3, ![8, 128, 1024]⟩
abbrev S1x1x128x1024 : Shape := ⟨4, ![1, 1, 128, 1024]⟩
abbrev S128x1024 : Shape := ⟨2, ![128, 1024]⟩
abbrev S1x1024x1024 : Shape := ⟨3, ![1, 1024, 1024]⟩

abbrev nBuf : Space → Nat
  | .hbm => 117
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S1024x32, .bf16⟩
  | .hbm, ⟨2, _⟩ => ⟨S2048x1, .i32⟩
  | .hbm, ⟨3, _⟩ => ⟨S8x1024x1024, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048x1, .i32⟩
  | .hbm, ⟨13, _⟩ => ⟨S32, .i32⟩
  | .hbm, ⟨14, _⟩ => ⟨S1x32, .i32⟩
  | .hbm, ⟨15, _⟩ => ⟨S2048x32, .i32⟩
  | .hbm, ⟨16, _⟩ => ⟨S2048x32, .i32⟩
  | .hbm, ⟨17, _⟩ => ⟨S2048x32, .i1⟩
  | .hbm, ⟨18, _⟩ => ⟨S2048x32, .f32⟩
  | .hbm, ⟨19, _⟩ => ⟨S_, .f32⟩
  | .hbm, ⟨20, _⟩ => ⟨S_, .f32⟩
  | .hbm, ⟨21, _⟩ => ⟨S2048x32, .f32⟩
  | .hbm, ⟨22, _⟩ => ⟨S_, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S_, .f32⟩
  | .hbm, ⟨27, _⟩ => ⟨S2048, .f32⟩
  | .hbm, ⟨28, _⟩ => ⟨S2048, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S_, .i1⟩
  | .hbm, ⟨65, _⟩ => ⟨S2048, .i1⟩
  | .hbm, ⟨66, _⟩ => ⟨S2048, .i1⟩
  | .hbm, ⟨67, _⟩ => ⟨S2048, .i1⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S2048, .i32⟩
  | .hbm, ⟨81, _⟩ => ⟨S2048, .i32⟩
  | .hbm, ⟨82, _⟩ => ⟨S_, .i32⟩
  | .hbm, ⟨83, _⟩ => ⟨S2048, .i32⟩
  | .hbm, ⟨84, _⟩ => ⟨S2048, .i1⟩
  | .hbm, ⟨85, _⟩ => ⟨S_, .i32⟩
  | .hbm, ⟨86, _⟩ => ⟨S2048, .i32⟩
  | .hbm, ⟨87, _⟩ => ⟨S2048, .i1⟩
  | .hbm, ⟨88, _⟩ => ⟨S_, .i32⟩
  | .hbm, ⟨89, _⟩ => ⟨S_, .i1⟩
  | .hbm, ⟨90, _⟩ => ⟨S2048, .i1⟩
  | .hbm, ⟨91, _⟩ => ⟨S2048, .i1⟩
  | .hbm, ⟨92, _⟩ => ⟨S2048, .i1⟩
  | .hbm, ⟨93, _⟩ => ⟨S2048, .i32⟩
  | .hbm, ⟨94, _⟩ => ⟨S2048, .i32⟩
  | .hbm, ⟨95, _⟩ => ⟨S2048, .i32⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S2048, .i32⟩
  | .hbm, ⟨100, _⟩ => ⟨S2048, .i32⟩
  | .hbm, ⟨101, _⟩ => ⟨S_, .i32⟩
  | .hbm, ⟨102, _⟩ => ⟨S2048, .i32⟩
  | .hbm, ⟨103, _⟩ => ⟨S2048, .i1⟩
  | .hbm, ⟨104, _⟩ => ⟨S_, .i32⟩
  | .hbm, ⟨105, _⟩ => ⟨S2048, .i32⟩
  | .hbm, ⟨106, _⟩ => ⟨S2048, .i32⟩
  | .hbm, ⟨107, _⟩ => ⟨S2048x1, .i32⟩
  | .hbm, ⟨108, _⟩ => ⟨S8x1024x1024, .bf16⟩
  | .hbm, ⟨109, _⟩ => ⟨S4096x1024, .bf16⟩
  | .hbm, ⟨110, _⟩ => ⟨S2048x1, .f32⟩
  | .hbm, ⟨111, _⟩ => ⟨S2048x1024, .bf16⟩
  | .hbm, ⟨112, _⟩ => ⟨S4x8x128x1024, .bf16⟩
  | .hbm, ⟨113, _⟩ => ⟨S4x8x128x1024, .bf16⟩
  | .hbm, ⟨114, _⟩ => ⟨S2048x1024, .f32⟩
  | .hbm, ⟨115, _⟩ => ⟨S4096x1024, .bf16⟩
  | .hbm, ⟨116, _⟩ => ⟨S2048x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S2048x1024, .bf16⟩
  | .local _ .vmem, ⟨5, _⟩ => ⟨S1024x32, .bf16⟩
  | .local _ .vmem, ⟨6, _⟩ => ⟨S2048x1, .i32⟩
  | .local _ .vmem, ⟨7, _⟩ => ⟨S2048x1, .i32⟩
  | .local _ .vmem, ⟨8, _⟩ => ⟨S4096x1024, .bf16⟩
  | .local _ .vmem, ⟨9, _⟩ => ⟨S2048x1, .f32⟩
  | .local _ .vmem, ⟨10, _⟩ => ⟨S2048x1024, .bf16⟩
  | .local _ .vmem, ⟨11, _⟩ => ⟨S4x8x128x1024, .bf16⟩
  | .local _ .vmem, ⟨12, _⟩ => ⟨S2048x1024, .bf16⟩
  | .local _ .vmem, ⟨13, _⟩ => ⟨S1024x1024, .bf16⟩
  | .local _ .vmem, ⟨14, _⟩ => ⟨S8x1024x1024, .bf16⟩
  | .local _ .vmem, ⟨15, _⟩ => ⟨S4x8x128x1024, .bf16⟩
  | .local _ .vmem, ⟨16, _⟩ => ⟨S2048x1024, .f32⟩
  | .local _ .vmem, ⟨17, _⟩ => ⟨S4x8x128x1024, .bf16⟩
  | .local _ .vmem, ⟨18, _⟩ => ⟨S2048x1, .i32⟩
  | .local _ .vmem, ⟨19, _⟩ => ⟨S4096x1024, .bf16⟩
  | .local _ .vmem, ⟨20, _⟩ => ⟨S2048x1024, .f32⟩
  | .local _ .vmem, ⟨21, _⟩ => ⟨S2048x1, .f32⟩
  | .local _ .vmem, ⟨22, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_call0_cst : Ref sig .tc := ⟨.hbm, 19, rfl⟩
abbrev main_call0_call0_v0 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_1 : Ref sig .tc := ⟨.hbm, 57, rfl⟩
abbrev main_call2_v5 : Ref sig .tc := ⟨.hbm, 58, rfl⟩
abbrev main_call2_v6 : Ref sig .tc := ⟨.hbm, 59, rfl⟩
abbrev main_call2_c_2 : Ref sig .tc := ⟨.hbm, 60, rfl⟩
abbrev main_call2_v7 : Ref sig .tc := ⟨.hbm, 61, rfl⟩
abbrev main_call2_v8 : Ref sig .tc := ⟨.hbm, 62, rfl⟩
abbrev main_call2_c_3 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_v22 : Ref sig .tc := ⟨.hbm, 70, rfl⟩
abbrev main_c_4 : Ref sig .tc := ⟨.hbm, 71, rfl⟩
abbrev main_v23 : Ref sig .tc := ⟨.hbm, 72, rfl⟩
abbrev main_v24 : Ref sig .tc := ⟨.hbm, 73, rfl⟩
abbrev main_c_5 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v25 : Ref sig .tc := ⟨.hbm, 95, rfl⟩
abbrev main_c_6 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_c_7 : Ref sig .tc := ⟨.hbm, 101, rfl⟩
abbrev main_v30 : Ref sig .tc := ⟨.hbm, 102, rfl⟩
abbrev main_v31 : Ref sig .tc := ⟨.hbm, 103, rfl⟩
abbrev main_c_8 : Ref sig .tc := ⟨.hbm, 104, rfl⟩
abbrev main_call4_v0 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35_0 : Ref sig .tc := ⟨.hbm, 109, rfl⟩
abbrev main_v35_1 : Ref sig .tc := ⟨.hbm, 110, rfl⟩
abbrev main_v35_2 : Ref sig .tc := ⟨.hbm, 111, rfl⟩
abbrev main_v36 : Ref sig .tc := ⟨.hbm, 112, rfl⟩
abbrev main_v37_0 : Ref sig .tc := ⟨.hbm, 113, rfl⟩
abbrev main_v37_1 : Ref sig .tc := ⟨.hbm, 114, rfl⟩
abbrev main_v38 : Ref sig .tc := ⟨.hbm, 115, rfl⟩
abbrev main_v39 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev barrier0 : Sem sig := 0

abbrev nD : Nat := 4
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := .none

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2048x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := .none

def k2_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k2_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k2_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k2_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_39 : BitVec 32 := 1#32
  let v54 : BitVec 32 := Scalar.muli v53 c1_i32_39
  let v55 : BitVec 32 := Scalar.addi c0_i32_40 v54
  v55.toNat
def k2_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_47 : BitVec 32 := 2#32
  let v64 : BitVec 32 := Scalar.addi v2 c2_i32_47
  let c4_i32_48 : BitVec 32 := 4#32
  let c0_i32_49 : BitVec 32 := 0#32
  let v65 : BitVec 1 := Scalar.cmpi .eq c4_i32_48 c0_i32_49
  let c1_i32_50 : BitVec 32 := 1#32
  let v66 : BitVec 32 := Scalar.select v65 c1_i32_50 c4_i32_48
  let v67 : BitVec 32 := Scalar.remsi v64 v66
  let c0_i32_52 : BitVec 32 := 0#32
  let v69 : BitVec 1 := Scalar.cmpi .slt v67 c0_i32_52
  let c0_i32_53 : BitVec 32 := 0#32
  let v70 : BitVec 1 := Scalar.cmpi .slt v66 c0_i32_53
  let v71 : BitVec 1 := Scalar.xori v69 v70
  let c0_i32_51 : BitVec 32 := 0#32
  let v68 : BitVec 1 := Scalar.cmpi .ne v67 c0_i32_51
  let v72 : BitVec 1 := Scalar.andi v71 v68
  let v73 : BitVec 32 := Scalar.addi v67 v66
  let v74 : BitVec 32 := Scalar.select v72 v73 v67
  let c1_i32_58 : BitVec 32 := 1#32
  let v75 : BitVec 32 := Scalar.muli v74 c1_i32_58
  let v76 : BitVec 32 := Scalar.addi c0_i32_59 v75
  v76.toNat
def k2_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v85 : BitVec 32 := Scalar.addi v2 c3_i32_66
  let c4_i32_67 : BitVec 32 := 4#32
  let c0_i32_68 : BitVec 32 := 0#32
  let v86 : BitVec 1 := Scalar.cmpi .eq c4_i32_67 c0_i32_68
  let c1_i32_69 : BitVec 32 := 1#32
  let v87 : BitVec 32 := Scalar.select v86 c1_i32_69 c4_i32_67
  let v88 : BitVec 32 := Scalar.remsi v85 v87
  let c0_i32_71 : BitVec 32 := 0#32
  let v90 : BitVec 1 := Scalar.cmpi .slt v88 c0_i32_71
  let c0_i32_72 : BitVec 32 := 0#32
  let v91 : BitVec 1 := Scalar.cmpi .slt v87 c0_i32_72
  let v92 : BitVec 1 := Scalar.xori v90 v91
  let c0_i32_70 : BitVec 32 := 0#32
  let v89 : BitVec 1 := Scalar.cmpi .ne v88 c0_i32_70
  let v93 : BitVec 1 := Scalar.andi v92 v89
  let v94 : BitVec 32 := Scalar.addi v88 v87
  let v95 : BitVec 32 := Scalar.select v93 v94 v88
  let c1_i32_77 : BitVec 32 := 1#32
  let v96 : BitVec 32 := Scalar.muli v95 c1_i32_77
  let v97 : BitVec 32 := Scalar.addi c0_i32_78 v96
  v97.toNat
def k2_dev7 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_294 : BitVec 32 := 1#32
  let v275 : BitVec 32 := Scalar.addi v2 c1_i32_294
  let c4_i32_295 : BitVec 32 := 4#32
  let c0_i32_296 : BitVec 32 := 0#32
  let v276 : BitVec 1 := Scalar.cmpi .eq c4_i32_295 c0_i32_296
  let c1_i32_297 : BitVec 32 := 1#32
  let v277 : BitVec 32 := Scalar.select v276 c1_i32_297 c4_i32_295
  let v278 : BitVec 32 := Scalar.remsi v275 v277
  let c0_i32_299 : BitVec 32 := 0#32
  let v280 : BitVec 1 := Scalar.cmpi .slt v278 c0_i32_299
  let c0_i32_300 : BitVec 32 := 0#32
  let v281 : BitVec 1 := Scalar.cmpi .slt v277 c0_i32_300
  let v282 : BitVec 1 := Scalar.xori v280 v281
  let c0_i32_298 : BitVec 32 := 0#32
  let v279 : BitVec 1 := Scalar.cmpi .ne v278 c0_i32_298
  let v283 : BitVec 1 := Scalar.andi v282 v279
  let v284 : BitVec 32 := Scalar.addi v278 v277
  let v285 : BitVec 32 := Scalar.select v283 v284 v278
  let c1_i32_305 : BitVec 32 := 1#32
  let v286 : BitVec 32 := Scalar.muli v285 c1_i32_305
  let v287 : BitVec 32 := Scalar.addi c0_i32_306 v286
  v287.toNat
def k2_dev8 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_428 : BitVec 32 := 2#32
  let v387 : BitVec 32 := Scalar.addi v2 c2_i32_428
  let c4_i32_429 : BitVec 32 := 4#32
  let c0_i32_430 : BitVec 32 := 0#32
  let v388 : BitVec 1 := Scalar.cmpi .eq c4_i32_429 c0_i32_430
  let c1_i32_431 : BitVec 32 := 1#32
  let v389 : BitVec 32 := Scalar.select v388 c1_i32_431 c4_i32_429
  let v390 : BitVec 32 := Scalar.remsi v387 v389
  let c0_i32_433 : BitVec 32 := 0#32
  let v392 : BitVec 1 := Scalar.cmpi .slt v390 c0_i32_433
  let c0_i32_434 : BitVec 32 := 0#32
  let v393 : BitVec 1 := Scalar.cmpi .slt v389 c0_i32_434
  let v394 : BitVec 1 := Scalar.xori v392 v393
  let c0_i32_432 : BitVec 32 := 0#32
  let v391 : BitVec 1 := Scalar.cmpi .ne v390 c0_i32_432
  let v395 : BitVec 1 := Scalar.andi v394 v391
  let v396 : BitVec 32 := Scalar.addi v390 v389
  let v397 : BitVec 32 := Scalar.select v395 v396 v390
  let c1_i32_439 : BitVec 32 := 1#32
  let v398 : BitVec 32 := Scalar.muli v397 c1_i32_439
  let v399 : BitVec 32 := Scalar.addi c0_i32_440 v398
  v399.toNat
def k2_dev9 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_562 : BitVec 32 := 3#32
  let v499 : BitVec 32 := Scalar.addi v2 c3_i32_562
  let c4_i32_563 : BitVec 32 := 4#32
  let c0_i32_564 : BitVec 32 := 0#32
  let v500 : BitVec 1 := Scalar.cmpi .eq c4_i32_563 c0_i32_564
  let c1_i32_565 : BitVec 32 := 1#32
  let v501 : BitVec 32 := Scalar.select v500 c1_i32_565 c4_i32_563
  let v502 : BitVec 32 := Scalar.remsi v499 v501
  let c0_i32_567 : BitVec 32 := 0#32
  let v504 : BitVec 1 := Scalar.cmpi .slt v502 c0_i32_567
  let c0_i32_568 : BitVec 32 := 0#32
  let v505 : BitVec 1 := Scalar.cmpi .slt v501 c0_i32_568
  let v506 : BitVec 1 := Scalar.xori v504 v505
  let c0_i32_566 : BitVec 32 := 0#32
  let v503 : BitVec 1 := Scalar.cmpi .ne v502 c0_i32_566
  let v507 : BitVec 1 := Scalar.andi v506 v503
  let v508 : BitVec 32 := Scalar.addi v502 v501
  let v509 : BitVec 32 := Scalar.select v507 v508 v502
  let c1_i32_573 : BitVec 32 := 1#32
  let v510 : BitVec 32 := Scalar.muli v509 c1_i32_573
  let v511 : BitVec 32 := Scalar.addi c0_i32_574 v510
  v511.toNat
abbrev stage2_0 : Fin 1 → Memref sig .tc .vmem S4x8x128x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4x8x128x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2048x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev grid3 : Pipeline.Grid := .none

abbrev stage3_0 : Fin 1 → Memref sig .tc .vmem S2048x1 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S2048x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S2048x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S2048x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
-- ==== ReferenceIdeal.lean ====
abbrev S8192x1024 : Shape := ⟨2, ![8192, 1024]⟩
abbrev S1024x32 : Shape := ⟨2, ![1024, 32]⟩
abbrev S8192x1 : Shape := ⟨2, ![8192, 1]⟩
abbrev S32x1024x1024 : Shape := ⟨3, ![32, 1024, 1024]⟩
abbrev S1024x1024 : Shape := ⟨2, ![1024, 1024]⟩
abbrev S8192x32 : Shape := ⟨2, ![8192, 32]⟩
abbrev S_ : Shape := ⟨0, ![]⟩
abbrev S8192 : Shape := ⟨1, ![8192]⟩
abbrev S32 : Shape := ⟨1, ![32]⟩
abbrev S1x32 : Shape := ⟨2, ![1, 32]⟩
abbrev S8192x32x1024 : Shape := ⟨3, ![8192, 32, 1024]⟩
abbrev S8192x32x1 : Shape := ⟨3, ![8192, 32, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x32, .bf16⟩
  | .hbm, ⟨2, _⟩ => ⟨S8192x1, .i32⟩
  | .hbm, ⟨3, _⟩ => ⟨S32x1024x1024, .bf16⟩
  | .hbm, ⟨4, _⟩ => ⟨S1024x1024, .bf16⟩
  | .hbm, ⟨5, _⟩ => ⟨S8192x1024, .f32⟩
  | .hbm, ⟨6, _⟩ => ⟨S1024x32, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x32, .f32⟩
  | .hbm, ⟨18, _⟩ => ⟨S8192x32, .f32⟩
  | .hbm, ⟨19, _⟩ => ⟨S1024x1024, .f32⟩
  | .hbm, ⟨20, _⟩ => ⟨S8192x1024, .f32⟩
  | .hbm, ⟨21, _⟩ => ⟨S32, .i32⟩
  | .hbm, ⟨22, _⟩ => ⟨S1x32, .i32⟩
  | .hbm, ⟨23, _⟩ => ⟨S8192x32, .i32⟩
  | .hbm, ⟨24, _⟩ => ⟨S8192x32, .i32⟩
  | .hbm, ⟨25, _⟩ => ⟨S8192x32, .i1⟩
  | .hbm, ⟨26, _⟩ => ⟨S_, .f32⟩
  | .hbm, ⟨27, _⟩ => ⟨S_, .f32⟩
  | .hbm, ⟨28, _⟩ => ⟨S8192x32, .f32⟩
  | .hbm, ⟨29, _⟩ => ⟨S8192x32, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S32x1024x1024, .f32⟩
  | .hbm, ⟨34, _⟩ => ⟨S8192x32x1024, .f32⟩
  | .hbm, ⟨35, _⟩ => ⟨S8192x32x1, .i1⟩
  | .hbm, ⟨36, _⟩ => ⟨S_, .f32⟩
  | .hbm, ⟨37, _⟩ => ⟨S_, .f32⟩
  | .hbm, ⟨38, _⟩ => ⟨S8192x32x1024, .i1⟩
  | .hbm, ⟨39, _⟩ => ⟨S8192x32x1024, .f32⟩
  | .hbm, ⟨40, _⟩ => ⟨S8192x32x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.Slots.lean ====
/-
The buffers that the exchange moves, cut into their four slots: which elements a slot has, what a copy of one slot into
another leaves there, and the contents the exchange passes on, as functions of what every device holds.
-/
module

public import proofs.«01_k».proof.Proof.Gen.KernelIdeal
public import proofs.«01_k».proof.Proof.Gen.KernelIdeal.Skeleton
public import Idealize.ShloMosaic.Lib.ValueIdxCore
public import Idealize.ShloMosaic.Lib.Tactic

@[expose] public section

set_option maxRecDepth 16384

noncomputable section

namespace Cert.Proof.Moe

open Cert.KernelIdeal Cert.KernelIdeal.Gen
open Idealize.ShloMosaic Idealize.ShloMosaic.TcCoe

variable {F : FTy → Type} [FloatOps F]

/-- The shape of the three buffers the exchange works on: slot, local expert, row, column. -/
abbrev SB : Shape := S4x8x128x1024

theorem slot_inb (j : Fin 4) : ∀ a, (![j.val, 0, 0, 0] : Fin SB.rank → ℕ) a + S1x8x128x1024.size a ≤ SB.size a := by
  revert j; decide
theorem tile_inb (j : Fin 4) (k : Fin 8) : ∀ a, (![j.val, k.val, 0, 0] : Fin SB.rank → ℕ) a + S1x1x128x1024.size a ≤ SB.size a := by
  revert j k; decide
theorem wgt_inb (k : Fin 8) : ∀ a, (![k.val, 0, 0] : Fin S8x1024x1024.rank → ℕ) a + S1x1024x1024.size a ≤ S8x1024x1024.size a := by
  revert k; decide

/-- Slot `j`, one expert's tile of it, one expert's weights. -/
abbrev slotR (j : Fin 4) : Rect SB := Rect.unit (s := SB) ![j.val, 0, 0, 0] S1x8x128x1024.size (slot_inb j)
abbrev tileR (j : Fin 4) (k : Fin 8) : Rect SB := Rect.unit (s := SB) ![j.val, k.val, 0, 0] S1x1x128x1024.size (tile_inb j k)
abbrev wgtR (k : Fin 8) : Rect S8x1024x1024 := Rect.unit (s := S8x1024x1024) ![k.val, 0, 0] S1x1024x1024.size (wgt_inb k)

/-- Slot `j` of a buffer as the copies name it. -/
abbrev slotM (M : Memref sig .tc .vmem SB .bf16) (j : Fin 4) : Memref sig .tc .vmem S8x128x1024 .bf16 :=
  (M.slice (slotR j) (fun _ => rfl)).squeeze S8x128x1024 squeezes_S1x8x128x1024_S8x128x1024

/-- An index moved to slot `j`. -/
def atSlot (j : Fin 4) (i : SB.Idx) : SB.Idx := fun a => match a with
  | ⟨0, _⟩ => j | ⟨1, _⟩ => i 1 | ⟨2, _⟩ => i 2 | ⟨3, _⟩ => i 3

theorem mem_slotR (j : Fin 4) (i : SB.Idx) : i ∈ (slotR j).set ↔ i 0 = j := by
  rw [LoadRect.mem_set]
  constructor
  · intro h
    obtain ⟨x, hx, e⟩ := h 0
    have hx1 : x < 1 := hx
    have e1 : (i 0 : ℕ) = j.val + 1 * x := e
    exact Fin.ext (by omega)
  · intro h a
    refine ⟨(i a : ℕ) - (slotR j).off a, ?_, ?_⟩
    · fin_cases a
      · show (i 0 : ℕ) - j.val < 1; rw [h]; omega
      · exact (i 1).isLt
      · exact (i 2).isLt
      · exact (i 3).isLt
    · fin_cases a
      · show (i 0 : ℕ) = j.val + 1 * ((i 0 : ℕ) - j.val); rw [h]; omega
      · show (i 1 : ℕ) = 0 + 1 * ((i 1 : ℕ) - 0); omega
      · show (i 2 : ℕ) = 0 + 1 * ((i 2 : ℕ) - 0); omega
      · show (i 3 : ℕ) = 0 + 1 * ((i 3 : ℕ) - 0); omega

theorem mem_tileR (j : Fin 4) (k : Fin 8) (i : SB.Idx) : i ∈ (tileR j k).set ↔ i 0 = j ∧ i 1 = k := by
  rw [LoadRect.mem_set]
  constructor
  · intro h
    obtain ⟨x, hx, e⟩ := h 0
    obtain ⟨y, hy, e'⟩ := h 1
    have hx1 : x < 1 := hx
    have hy1 : y < 1 := hy
    have e1 : (i 0 : ℕ) = j.val + 1 * x := e
    have e2 : (i 1 : ℕ) = k.val + 1 * y := e'
    exact ⟨Fin.ext (by omega), Fin.ext (by omega)⟩
  · rintro ⟨h, h'⟩ a
    refine ⟨(i a : ℕ) - (tileR j k).off a, ?_, ?_⟩
    · fin_cases a
      · show (i 0 : ℕ) - j.val < 1; rw [h]; omega
      · show (i 1 : ℕ) - k.val < 1; rw [h']; omega
      · exact (i 2).isLt
      · exact (i 3).isLt
    · fin_cases a
      · show (i 0 : ℕ) = j.val + 1 * ((i 0 : ℕ) - j.val); rw [h]; omega
      · show (i 1 : ℕ) = k.val + 1 * ((i 1 : ℕ) - k.val); rw [h']; omega
      · show (i 2 : ℕ) = 0 + 1 * ((i 2 : ℕ) - 0); omega
      · show (i 3 : ℕ) = 0 + 1 * ((i 3 : ℕ) - 0); omega

/-- A tile's elements are its slot's. -/
theorem tile_subset (j : Fin 4) (k : Fin 8) : (tileR j k).set ⊆ (slotR j).set := fun i hi =>
  (mem_slotR j i).mpr ((mem_tileR j k i).mp hi).1

/-- The slots are disjoint, and together they are the buffer. -/
theorem slots_disjoint {j j' : Fin 4} (h : j ≠ j') : Disjoint (slotR j).set (slotR j').set := by
  rw [Finset.disjoint_left]
  intro i h1 h2
  exact h (((mem_slotR j i).mp h1).symm.trans ((mem_slotR j' i).mp h2))
theorem slots_cover : (Finset.univ : Finset SB.Idx) = (Finset.univ : Finset (Fin 4)).biUnion fun j => (slotR j).set := by
  ext i
  simp only [Finset.mem_univ, Finset.mem_biUnion, true_and, true_iff]
  exact ⟨i 0, (mem_slotR _ _).mpr rfl⟩

/-- The elements a copy's view of slot `j` covers are the slot's. -/
theorem slotM_set (M : Memref sig .tc .vmem SB .bf16) (j : Fin 4) : (slotM M j).view.set = M.view.setOn (slotR j).set := by
  show ((M.view.slice (slotR j)).reshape S8x128x1024 _).set = _
  rw [View.set_reshape, View.set_slice]; rfl

/-- A copy of slot `js` of one buffer into slot `jd` of another leaves, at an index of slot `jd`, what the source reads at
    that index moved to slot `js`. -/
theorem copied (Ms Md : Memref sig .tc .vmem SB .bf16) (js jd : Fin 4) (fs : Ms.view.ty.Contents (Elt F)) (fd : Md.view.ty.Contents (Elt F))
    (i : SB.Idx) (hi : i 0 = jd) :
    Md.view.read (Elt F) ((slotM Md jd).view.write (Elt F) fd ((slotM Ms js).view.read (Elt F) fs) Finset.univ) i
      = Ms.view.read (Elt F) fs (atSlot js i) := by
  obtain ⟨x, rfl⟩ := LoadRect.exists_idx_of_mem _ ((mem_slotR jd i).mpr hi)
  obtain ⟨y, rfl⟩ := (Shape.reshapeEquiv (squeezes_S1x8x128x1024_S8x128x1024).numel_eq).surjective x
  rw [View.read_apply, show Md.view.emb ((slotR jd).toLoadRect.idx ((Shape.reshapeEquiv (squeezes_S1x8x128x1024_S8x128x1024).numel_eq) y))
      = (slotM Md jd).view.emb y from rfl, View.write_emb_of_mem _ _ (Finset.mem_univ _), View.read_apply, View.read_apply]
  simp only [cast_cast]
  refine congrArg _ (congrArg fs ?_)
  show Ms.view.emb ((slotR js).toLoadRect.idx ((Shape.reshapeEquiv (squeezes_S1x8x128x1024_S8x128x1024).numel_eq) y)) = _
  refine congrArg Ms.view.emb ?_
  have h0 : (Shape.reshapeEquiv (squeezes_S1x8x128x1024_S8x128x1024).numel_eq y) 0 = (0 : Fin 1) := Subsingleton.elim (α := Fin 1) _ _
  funext a
  fin_cases a
  · refine Fin.ext ?_
    show js.val + 1 * ((Shape.reshapeEquiv (squeezes_S1x8x128x1024_S8x128x1024).numel_eq y) 0 : ℕ) = js.val
    rw [h0]; rfl
  · rfl
  · rfl
  · rfl

/-- The exchange's three buffers: what a device has gathered for each slot, where the slots land, where the answers land. -/
abbrev dM : Memref sig .tc .vmem SB .bf16 := Memref.whole cc2_stg0_0
abbrev rM : Memref sig .tc .vmem SB .bf16 := Memref.whole cc2_scratch0
abbrev yM : Memref sig .tc .vmem SB .bf16 := Memref.whole cc2_stg4_0
abbrev wM : Memref sig .tc .vmem S8x1024x1024 .bf16 := Memref.whole cc2_stg3_0

/-- Contents of such a buffer. -/
abbrev CB (F : FTy → Type) : Type := SB.Idx → Elt F .bf16

/-- One expert's tile of slot `j` times that expert's weights, at every element. -/
def mm (d : CB F) (w : S8x1024x1024.Idx → Elt F .bf16) : CB F := fun i =>
  k2_pay2 (fun x => d ((tileR (i 0) (i 1)).idx x)) (fun x => w ((wgtR (i 1)).idx x)) (ValueIdx.ix4 0 0 (i 2) (i 3))

/-- What stands in a buffer worked on tile by tile, `k` of its tiles done: `t` on those, `s` on the rest. -/
def mix (k : ℕ) (s t : CB F) : CB F := fun i => if (i 1 : Fin 8).val < k then t i else s i

/-- The device `j` places on round the ring. -/
def peer (c : Dev nD) (j : Fin 4) : Dev nD := (show Fin 4 from c) + j

theorem peer_neg (c : Dev nD) (j : Fin 4) : peer (peer c j) (-j) = c := by revert c j; decide
theorem peer_zero (c : Dev nD) : peer c 0 = c := by revert c; decide

/-- The slot an index is in. -/
abbrev slotOf (i : SB.Idx) : Fin 4 := i 0

/-- What device `c` receives, slot `j` from device `c + j`: that device's slot `-j`. -/
def recvd (D : Dev nD → CB F) (c : Dev nD) : CB F := fun i => D (peer c (slotOf i)) (atSlot (-(slotOf i)) i)

/-- What device `c` has at the end, slot `j` worked on by device `c + j`. -/
def answer (D : Dev nD → CB F) (Wt : Dev nD → S8x1024x1024.Idx → Elt F .bf16) (c : Dev nD) : CB F := fun i =>
  mm (recvd D (peer c (slotOf i))) (Wt (peer c (slotOf i))) (atSlot (-(slotOf i)) i)

end Cert.Proof.Moe

end
-- ==== Proof.Proto.lean ====
/-
The exchange's protocol: the counters the four devices meet on, what each payment on them carries, and the order in which a
device may wait. Device `c` meets device `c + j` (j = 1, 2, 3): at the barrier it lends its own landing slots, then its slots
travel out, are worked on, and travel back.
-/
module

public import proofs.«01_k».proof.Proof.Slots
public import proofs.«01_k».proof.Proof.Gen.KernelIdeal.Launch
public import Idealize.ShloMosaic.Lib.Pipeline.RegionTalk
public import Idealize.ShloMosaic.Lib.Pipeline.Regions

@[expose] public section

set_option maxRecDepth 16384

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the exchange (four possible payers of a counter) beside the pipeline library's. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The counters -/

abbrev barS : Sem sig := sig.barrier 0 rfl
/-- First sends out, first arrivals, sends back, arrivals back: slot `j`'s counter of each array. -/
abbrev s1 (j : Fin 4) : DmaSem sig := ⟨17 + j.val, by have := j.isLt; show 17 + j.val < 38; omega⟩
abbrev v1 (j : Fin 4) : DmaSem sig := ⟨21 + j.val, by have := j.isLt; show 21 + j.val < 38; omega⟩
abbrev s2 (j : Fin 4) : DmaSem sig := ⟨25 + j.val, by have := j.isLt; show 25 + j.val < 38; omega⟩
abbrev v2 (j : Fin 4) : DmaSem sig := ⟨29 + j.val, by have := j.isLt; show 29 + j.val < 38; omega⟩

theorem s1_1 : ((cc2_scratch1.slice (Rect.unit (s := S4) ![1] S1.size inb_S4_S1_1)).squeeze S_ squeezes_S1_S_).sem = s1 1 := rfl
theorem s1_2 : ((cc2_scratch1.slice (Rect.unit (s := S4) ![2] S1.size inb_S4_S1_2)).squeeze S_ squeezes_S1_S_).sem = s1 2 := rfl
theorem s1_3 : ((cc2_scratch1.slice (Rect.unit (s := S4) ![3] S1.size inb_S4_S1_3)).squeeze S_ squeezes_S1_S_).sem = s1 3 := rfl
theorem v1_1 : ((cc2_scratch2.slice (Rect.unit (s := S4) ![1] S1.size inb_S4_S1_1)).squeeze S_ squeezes_S1_S_).sem = v1 1 := rfl
theorem v1_2 : ((cc2_scratch2.slice (Rect.unit (s := S4) ![2] S1.size inb_S4_S1_2)).squeeze S_ squeezes_S1_S_).sem = v1 2 := rfl
theorem v1_3 : ((cc2_scratch2.slice (Rect.unit (s := S4) ![3] S1.size inb_S4_S1_3)).squeeze S_ squeezes_S1_S_).sem = v1 3 := rfl
theorem s2_1 : ((cc2_scratch3.slice (Rect.unit (s := S4) ![1] S1.size inb_S4_S1_1)).squeeze S_ squeezes_S1_S_).sem = s2 1 := rfl
theorem s2_2 : ((cc2_scratch3.slice (Rect.unit (s := S4) ![2] S1.size inb_S4_S1_2)).squeeze S_ squeezes_S1_S_).sem = s2 2 := rfl
theorem s2_3 : ((cc2_scratch3.slice (Rect.unit (s := S4) ![3] S1.size inb_S4_S1_3)).squeeze S_ squeezes_S1_S_).sem = s2 3 := rfl
theorem v2_1 : ((cc2_scratch4.slice (Rect.unit (s := S4) ![1] S1.size inb_S4_S1_1)).squeeze S_ squeezes_S1_S_).sem = v2 1 := rfl
theorem v2_2 : ((cc2_scratch4.slice (Rect.unit (s := S4) ![2] S1.size inb_S4_S1_2)).squeeze S_ squeezes_S1_S_).sem = v2 2 := rfl
theorem v2_3 : ((cc2_scratch4.slice (Rect.unit (s := S4) ![3] S1.size inb_S4_S1_3)).squeeze S_ squeezes_S1_S_).sem = v2 3 := rfl

abbrev barCell (c : Dev nD) : GSem nD τ sig := ((c : Thread nD τ), .reg barS)
abbrev dCell (c : Dev nD) (k : DmaSem sig) : GSem nD τ sig := ((c : Thread nD τ), .dma k)

/-- The credit one slot's copy brings. -/
def N : ℕ := RefSig.tileCredit S8x128x1024 .bf16
theorem N_pos : 0 < N := RefSig.tileCredit_pos _ _ (by unfold Shape.numel; rw [Fin.prod_univ_three]; exact Nat.lt_of_lt_of_eq (by decide) (show 1048576 = 8 * 128 * 1024 from rfl))
theorem credit_r (j : Fin 4) : (slotM rM j).view.dmaCredit = N := rfl
theorem credit_y (j : Fin 4) : (slotM yM j).view.dmaCredit = N := rfl

/-! ## What is held -/

/-- Slot `j` of a buffer on device `c`, at contents `f`. -/
abbrev slotPts (M : Memref sig .tc .vmem SB .bf16) (c : Dev nD) (j : Fin 4) (f : Buf (Elt F) (M.view.loc (c : Thread nD τ))) : sProp 𝕄 :=
  M.view.loc (c : Thread nD τ) ↦[M.view.setOn (slotR j).set]{fullShare} f

section Sched

-- what the devices have gathered, and the weights of their experts
variable (D : Dev nD → CB F) (Wt : Dev nD → S8x1024x1024.Idx → Elt F .bf16)

/-- Payer `d` of device `c`'s barrier is device `c + d`: it lends its two slots that `c` will write, and that their arrival
    counters are at their first round. -/
def barPay (c : Dev nD) (d : Fin 4) : sProp 𝕄 :=
  iprop((∃ f, slotPts rM (peer c d) (-d) f) ∗ (∃ f, slotPts yM (peer c d) (-d) f)
    ∗ reached ER (dCell (peer c d) (v1 (-d))) 0 ∗ reached ER (dCell (peer c d) (v2 (-d))) 0)
def pay1s (c : Dev nD) (j : Fin 4) : sProp 𝕄 := slotPts dM c j (D c)
def pay1v (c : Dev nD) (j : Fin 4) : sProp 𝕄 := slotPts rM c j (recvd D c)
def pay2s (c : Dev nD) (j : Fin 4) : sProp 𝕄 := slotPts rM c j (mm (recvd D c) (Wt c))
def pay2v (c : Dev nD) (j : Fin 4) : sProp 𝕄 := slotPts yM c j (answer D Wt c)

/-- Which of the four arrays a DMA counter belongs to decides what is paid on it. -/
def dmaPay (c : Dev nD) (k : ℕ) : sProp 𝕄 :=
  if k < 17 then iprop(emp)
  else if k < 21 then pay1s D c (Fin.ofNat 4 (k - 17))
  else if k < 25 then pay1v D c (Fin.ofNat 4 (k - 21))
  else if k < 29 then pay2s D Wt c (Fin.ofNat 4 (k - 25))
  else pay2v D Wt c (Fin.ofNat 4 (k - 29))

def semPay (c : Dev nD) (d : Fin 4) : SemLoc sig → sProp 𝕄
  | .reg _ => barPay c d
  | .dma k => dmaPay D Wt c k.val

def semDuties : SemLoc sig → Finset (Fin 4)
  | .reg _ => {1, 2, 3}
  | .dma _ => {0}

def semAmount : SemLoc sig → ℕ
  | .reg _ => 1
  | .dma _ => N

/-- The schedule: one round; three payers of a barrier, one of a DMA counter. -/
def sched : Rounds.Schedule (GSem nD τ sig) (Fin 4) 𝕄 where
  duties g r := if r = 0 then semDuties g.2 else ∅
  unitless _ := False
  amount g _ _ := semAmount g.2
  payload g _ d := semPay D Wt g.1.1 d g.2
  amount_pos g _ _ _ := by
    rcases g with ⟨t, s | k⟩
    · exact Nat.one_pos
    · exact N_pos

instance slotPts_storable (M : Memref sig .tc .vmem SB .bf16) (c : Dev nD) (j : Fin 4) (f : Buf (Elt F) (M.view.loc (c : Thread nD τ))) :
    BI.Storable (upEmb : UEmb _ 𝕄) (slotPts M c j f) := inferInstance
theorem someSlot_storable (M : Memref sig .tc .vmem SB .bf16) (c : Dev nD) (j : Fin 4) :
    BI.Storable (upEmb : UEmb _ 𝕄) (iprop(∃ f, slotPts (F := F) M c j f)) := inferInstance
theorem barPay_storable (c : Dev nD) (d : Fin 4) : BI.Storable (upEmb : UEmb _ 𝕄) (barPay (F := F) c d) := by
  unfold barPay
  have := someSlot_storable (F := F) rM (peer c d) (-d)
  have := someSlot_storable (F := F) yM (peer c d) (-d)
  infer_instance

instance sched_storable (g : GSem nD τ sig) (r : ℕ) (d : Fin 4) :
    BI.Storable (upEmb : UEmb _ 𝕄) ((sched (F := F) D Wt).payload g r d) := by
  rcases g with ⟨t, s | k⟩
  · exact barPay_storable t.1 d
  · show BI.Storable upEmb (dmaPay D Wt t.1 k.val)
    unfold dmaPay pay1s pay1v pay2s pay2v
    (repeat' split) <;> infer_instance

theorem duties_bar (c : Dev nD) : (sched (F := F) D Wt).duties (barCell c) 0 = {1, 2, 3} := rfl
theorem duties_dma (c : Dev nD) (k : DmaSem sig) : (sched (F := F) D Wt).duties (dCell c k) 0 = {0} := rfl
theorem duties_later (g : GSem nD τ sig) : ∀ r, 1 ≤ r → (sched (F := F) D Wt).duties g r = ∅ :=
  fun r hr => if_neg (by omega)
theorem amount_bar (c : Dev nD) (d : Fin 4) : (sched (F := F) D Wt).amount (barCell c) 0 d = 1 := rfl
theorem amount_dma (c : Dev nD) (k : DmaSem sig) (d : Fin 4) : (sched (F := F) D Wt).amount (dCell c k) 0 d = N := rfl
theorem expect_bar (c : Dev nD) : (sched (F := F) D Wt).expect (barCell c) 0 = 3 := by
  unfold Schedule.expect Schedule.amountOf
  rw [duties_bar, Finset.sum_congr rfl fun d _ => amount_bar D Wt c d]
  have h : ∑ _d ∈ ({1, 2, 3} : Finset (Fin 4)), 1 = 3 := by decide
  exact h
theorem expect_of_one (S : Rounds.Schedule (GSem nD τ sig) (Fin 4) 𝕄) {g : GSem nD τ sig} {r n : ℕ} {d : Fin 4}
    (h : S.duties g r = {d}) (hn : S.amount g r d = n) : S.expect g r = n := by
  unfold Schedule.expect Schedule.amountOf; rw [h, Finset.sum_singleton, hn]
theorem expect_dma (c : Dev nD) (k : DmaSem sig) : (sched (F := F) D Wt).expect (dCell c k) 0 = N :=
  expect_of_one _ (duties_dma D Wt c k) (amount_dma D Wt c k 0)

theorem payload_bar (c : Dev nD) (d : Fin 4) : (sched (F := F) D Wt).payload (barCell c) 0 d = barPay c d := rfl
theorem payload_s1 (c : Dev nD) (j d : Fin 4) : (sched (F := F) D Wt).payload (dCell c (s1 j)) 0 d = pay1s D c j := by
  fin_cases j <;> rfl
theorem payload_v1 (c : Dev nD) (j d : Fin 4) : (sched (F := F) D Wt).payload (dCell c (v1 j)) 0 d = pay1v D c j := by
  fin_cases j <;> rfl
theorem payload_s2 (c : Dev nD) (j d : Fin 4) : (sched (F := F) D Wt).payload (dCell c (s2 j)) 0 d = pay2s D Wt c j := by
  fin_cases j <;> rfl
theorem payload_v2 (c : Dev nD) (j d : Fin 4) : (sched (F := F) D Wt).payload (dCell c (v2 j)) 0 d = pay2v D Wt c j := by
  fin_cases j <;> rfl

theorem rest_bar (c : Dev nD) : bigSep ((sched (F := F) D Wt).duties (barCell c) 0 \ ∅) (fun d => (sched (F := F) D Wt).payload (barCell c) 0 d)
    = iprop(barPay c 1 ∗ barPay c 2 ∗ barPay c 3) := by
  rw [Finset.sdiff_empty, duties_bar, bigSep_eq_bigSepL_of_eq [(1 : Fin 4), 2, 3] (by decide) (by decide)]
  rfl
theorem rest_dma (c : Dev nD) (k : DmaSem sig) :
    bigSep ((sched (F := F) D Wt).duties (dCell c k) 0 \ ∅) (fun d => (sched (F := F) D Wt).payload (dCell c k) 0 d)
      = (sched (F := F) D Wt).payload (dCell c k) 0 0 := by
  rw [Finset.sdiff_empty, duties_dma, bigSep_singleton]

end Sched

/-! ## What each device owes at the start; the levels -/

/-- What device `c` owes device `c + j`: one unit on its barrier, a slot out, a slot back. -/
abbrev oB (c : Dev nD) (j : Fin 4) : CellTallies nD τ sig Unit := tallyAt (barCell (peer c j)) () 1
abbrev oP (c : Dev nD) (j : Fin 4) : CellTallies nD τ sig Unit := tallyAt (dCell (peer c j) (v1 (-j))) () N
abbrev oQ (c : Dev nD) (j : Fin 4) : CellTallies nD τ sig Unit := tallyAt (dCell (peer c j) (v2 (-j))) () N

/-- All of it, the payments of each stage in the order in which they are made, the last first. -/
def owQ (c : Dev nD) : CellTallies nD τ sig Unit := oQ c 3 + oQ c 2 + oQ c 1
def owP (c : Dev nD) : CellTallies nD τ sig Unit := owQ c + oP c 3 + oP c 2 + oP c 1
def O₀ (c : Dev nD) : CellTallies nD τ sig Unit := owP c + oB c 3 + oB c 2 + oB c 1

def L (g : GSem nD τ sig) : Finset Unit := if g.1.2 = .tc then {()} else ∅
/-- Barriers before first arrivals before arrivals back; everything else is waited on owing nothing. -/
def semLv : SemLoc sig → ℕ
  | .reg _ => 1
  | .dma k => if k.val < 21 then 0 else if k.val < 25 then 2 else if k.val < 29 then 0 else 3
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-- Everything owed is on a named counter above level `l`. -/
def Above (l : ℕ) (O : CellTallies nD τ sig Unit) : Prop := ∀ g u, 0 < O g u → u ∈ L g ∧ l < lv g u

theorem Above.zero (l : ℕ) : Above l 0 := fun _ _ h => absurd h (Nat.lt_irrefl 0)
theorem Above.add {l : ℕ} {O O' : CellTallies nD τ sig Unit} (h : Above l O) (h' : Above l O') : Above l (O + O') := fun g u hg => by
  rw [Pi.add_apply, Finsupp.add_apply] at hg
  rcases Nat.add_pos_iff_pos_or_pos.mp hg with hg | hg
  · exact h g u hg
  · exact h' g u hg
theorem Above.tally {l : ℕ} (c : Dev nD) (sm : SemLoc sig) (n : ℕ) (h : l < semLv sm) :
    Above l (tallyAt ((c : Thread nD τ), sm) () n) := fun g u hg => by
  rw [tallyAt_apply] at hg
  split at hg
  · next e => rw [e.1, L_tc]; exact ⟨Finset.mem_singleton_self _, h⟩
  · exact absurd hg (Nat.lt_irrefl 0)
theorem Above.mono {l l' : ℕ} {O : CellTallies nD τ sig Unit} (h : Above l' O) (hl : l ≤ l') : Above l O :=
  fun g u hg => ⟨(h g u hg).1, Nat.lt_of_le_of_lt hl (h g u hg).2⟩

theorem lv_v1 (j : Fin 4) : semLv (.dma (v1 j)) = 2 := by fin_cases j <;> rfl
theorem lv_v2 (j : Fin 4) : semLv (.dma (v2 j)) = 3 := by fin_cases j <;> rfl

theorem above_oQ (c : Dev nD) (j : Fin 4) : Above 2 (oQ c j) := Above.tally _ _ _ (by rw [lv_v2]; decide)
theorem above_oP (c : Dev nD) (j : Fin 4) : Above 1 (oP c j) := Above.tally _ _ _ (by rw [lv_v1]; decide)
theorem above_oB (c : Dev nD) (j : Fin 4) : Above 0 (oB c j) := Above.tally _ _ _ (by decide)
theorem above_owQ (c : Dev nD) : Above 2 (owQ c) := ((above_oQ c 3).add (above_oQ c 2)).add (above_oQ c 1)
theorem above_owP (c : Dev nD) : Above 1 (owP c) :=
  ((((above_owQ c).mono (by decide)).add (above_oP c 3)).add (above_oP c 2)).add (above_oP c 1)
theorem above_O₀ (c : Dev nD) : Above 0 (O₀ c) :=
  ((((above_owP c).mono (by decide)).add (above_oB c 3)).add (above_oB c 2)).add (above_oB c 1)

/-- A wait on a counter of level at most `l`, owing only above `l`. -/
theorem mayWait (c : Dev nD) (sm : SemLoc sig) (l : ℕ) (hs : semLv sm ≤ l) (O : CellTallies nD τ sig Unit) (h : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => (h g u hg).1)
    (fun p hp => by rw [Finset.mem_singleton.mp hp]; exact hs)
    (fun g u hg => (h g u hg).2)

end Cert.Proof.Moe

end
-- ==== Proof.Steps.lean ====
/-
The steps of the exchange's body, one lemma each, at a symbolic device: a signal, a slot sent out, a slot sent back, a wait, and
one expert's tile of a slot multiplied by that expert's weights.
-/
module

public import proofs.«01_k».proof.Proof.Proto

@[expose] public section

set_option maxRecDepth 16384

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents of a slot -/

theorem slot_congr_r (c : Dev nD) (j : Fin 4) {f g : CB F} (h : ∀ i : SB.Idx, i 0 = j → f i = g i) :
    (slotPts rM c j f : sProp 𝕄) = slotPts rM c j g :=
  pointsTo_congr fun i hi => by
    obtain ⟨x, hx, rfl⟩ := Finset.mem_map.mp hi
    exact h x ((mem_slotR j x).mp hx)
theorem slot_congr_y (c : Dev nD) (j : Fin 4) {f g : CB F} (h : ∀ i : SB.Idx, i 0 = j → f i = g i) :
    (slotPts yM c j f : sProp 𝕄) = slotPts yM c j g :=
  pointsTo_congr fun i hi => by
    obtain ⟨x, hx, rfl⟩ := Finset.mem_map.mp hi
    exact h x ((mem_slotR j x).mp hx)

/-- An index of tile `(j, k)` from its place in the tile, and back. -/
theorem tile_idx (j : Fin 4) (k : Fin 8) (i : SB.Idx) (h0 : i 0 = j) (h1 : i 1 = k) :
    (tileR j k).idx (ValueIdx.ix4 0 0 (i 2) (i 3)) = i := by
  subst h0; subst h1
  funext a
  fin_cases a
  · exact Fin.ext (by show (i 0 : ℕ) + 1 * 0 = i 0; omega)
  · exact Fin.ext (by show (i 1 : ℕ) + 1 * 0 = i 1; omega)
  · exact Fin.ext (by show 0 + 1 * (i 2 : ℕ) = i 2; omega)
  · exact Fin.ext (by show 0 + 1 * (i 3 : ℕ) = i 3; omega)

/-- The `k`-th tile of slot `j` written: the slot is one tile further. -/
theorem mix_step (j : Fin 4) (k : Fin 8) (s t : CB F) (w : (tileR j k).shape.Idx → Elt F .bf16)
    (hw : ∀ i : SB.Idx, i 0 = j → i 1 = k → w (ValueIdx.ix4 0 0 (i 2) (i 3)) = t i) (g : CB F)
    (hin : ∀ x, g ((tileR j k).idx x) = w x) (hout : ∀ i, i ∉ (tileR j k).set → g i = mix k.val s t i) (i : SB.Idx) (hi : i 0 = j) :
    g i = mix (k.val + 1) s t i := by
  unfold mix at hout ⊢
  by_cases h : i 1 = k
  · have e := tile_idx j k i hi h
    rw [if_pos (by rw [h]; omega), ← hw i hi h, ← hin, e]
  · rw [hout i fun hm => h ((mem_tileR j k i).mp hm).2]
    have h' : (i 1 : Fin 8).val ≠ k.val := fun e => h (Fin.ext e)
    by_cases hlt : (i 1 : Fin 8).val < k.val
    · rw [if_pos hlt, if_pos (by omega)]
    · rw [if_neg hlt, if_neg (by omega)]

theorem tile_set (M : Memref sig .tc .vmem SB .bf16) (j : Fin 4) (k : Fin 8) : (M.access (tileR j k)).setOn Finset.univ ⊆ M.view.setOn (slotR j).set := by
  intro i hi
  obtain ⟨x, -, rfl⟩ := Finset.mem_map.mp hi
  exact (M.view.mem_setOn).mpr (tile_subset j k ((tileR j k).idx_mem x))

theorem load_set (M : Memref sig .tc .vmem SB .bf16) (j : Fin 4) (k : Fin 8) :
    M.view.setOn (tileR j k).toLoadRect.set ⊆ M.view.setOn (slotR j).set :=
  Finset.map_subset_map.mpr (tile_subset j k)

theorem mix_write_r (j : Fin 4) (k : Fin 8) (s t : CB F) (w : (tileR j k).shape.Idx → Elt F .bf16)
    (hw : ∀ i : SB.Idx, i 0 = j → i 1 = k → w (ValueIdx.ix4 0 0 (i 2) (i 3)) = t i) (i : SB.Idx) (hi : i 0 = j) :
    (rM.access (tileR j k)).write (Elt F) (mix k.val s t : CB F) w Finset.univ i = mix (k.val + 1) s t i :=
  mix_step j k s t w hw _ (fun x => View.write_emb_of_mem (v := rM.access (tileR j k)) _ _ (Finset.mem_univ x))
    (fun i hn => View.write_of_not_mem (v := rM.access (tileR j k)) _ _ _ fun hm => by
      obtain ⟨x, -, rfl⟩ := Finset.mem_map.mp hm
      exact hn ((tileR j k).idx_mem x)) i hi

theorem mix_write_y (j : Fin 4) (k : Fin 8) (s t : CB F) (w : (tileR j k).shape.Idx → Elt F .bf16)
    (hw : ∀ i : SB.Idx, i 0 = j → i 1 = k → w (ValueIdx.ix4 0 0 (i 2) (i 3)) = t i) (i : SB.Idx) (hi : i 0 = j) :
    (yM.access (tileR j k)).write (Elt F) (mix k.val s t : CB F) w Finset.univ i = mix (k.val + 1) s t i :=
  mix_step j k s t w hw _ (fun x => View.write_emb_of_mem (v := yM.access (tileR j k)) _ _ (Finset.mem_univ x))
    (fun i hn => View.write_of_not_mem (v := yM.access (tileR j k)) _ _ _ fun hm => by
      obtain ⟨x, -, rfl⟩ := Finset.mem_map.mp hm
      exact hn ((tileR j k).idx_mem x)) i hi

/-- Before any tile is done, and after all eight are. -/
theorem mix_zero (s t : CB F) : mix 0 s t = s := by unfold mix; rfl
theorem mix_all (s t : CB F) : mix 8 s t = t := by
  funext i; exact if_pos (i 1 : Fin 8).isLt

/-- The `k`-th tile read off a slot whose first `k` tiles only are done. -/
theorem mix_read (j : Fin 4) (k : Fin 8) (s t : CB F) (x : (tileR j k).shape.Idx) : mix k.val s t ((tileR j k).idx x) = s ((tileR j k).idx x) := by
  unfold mix
  refine if_neg ?_
  rw [((mem_tileR j k _).mp ((tileR j k).idx_mem x)).2]; exact Nat.lt_irrefl _

theorem mm_tile (j : Fin 4) (k : Fin 8) (d : CB F) (w : S8x1024x1024.Idx → Elt F .bf16) (i : SB.Idx) (h0 : i 0 = j) (h1 : i 1 = k) :
    k2_pay2 (fun x => d ((tileR j k).idx x)) (fun x => w ((wgtR k).idx x)) (ValueIdx.ix4 0 0 (i 2) (i 3)) = mm d w i := by
  subst h0; subst h1; rfl

/-! ## A tile's product -/

/-- A tile of the device's own slot: read it and the expert's weights, (dead) read the result's tile, write the product there. -/
theorem wp_tile_own (c : Dev nD) (k : Fin 8) (j : Fin 4) (hj : j = 0) (d s : CB F) (w : S8x1024x1024.Idx → Elt F .bf16)
    {pay : (S1x1x128x1024.Idx → Elt F .bf16) → (S1x1024x1024.Idx → Elt F .bf16) → (S1x1x128x1024.Idx → Elt F .bf16)}
    (hpay : ∀ x y, pay x y = k2_pay2 x y) {h1 h2 h3 hx hm}
    {α : Type} {Q : α → sProp 𝕄} {K : PUnit → Prog (TpuEff nD τ sig (Elt F) Λ₀ .tc) α} :
    iprop(slotPts dM c j d ∗ (wM.view.loc (c : Thread nD τ) ↦{fullShare} w) ∗ slotPts yM c j (mix k.val s (mm d w)))
      ⊢ iprop(((slotPts dM c j d ∗ (wM.view.loc (c : Thread nD τ) ↦{fullShare} w) ∗ slotPts yM c j (mix (k.val + 1) s (mm d w)))
            -∗ wp frame (wpE (defs₀ (F := F)) 𝒱₀ (c : Thread nD τ) none) Set.univ (K ⟨⟩) Q)
          -∗ wp frame (wpE (defs₀ (F := F)) 𝒱₀ (c : Thread nD τ) none) Set.univ
              (.op (.load dM (tileR j k).toLoadRect h1) fun x => .op (.load wM (wgtR k).toLoadRect h2) fun y =>
                .op (.load yM (tileR j k).toLoadRect h3) fun _ => .op (.store yM (tileR j k) (pay x y) Finset.univ hx hm) K) Q) := by
  iintro ⟨Hd, Hw, Hy⟩ Hk
  iapply (wp_load 𝒱₀ (c : Thread nD τ) none Set.univ (m := dM) (load_set dM j k)) $$ Hd; iintro Hd
  iapply (wp_load 𝒱₀ (c : Thread nD τ) none Set.univ (m := wM) (Finset.subset_univ _)) $$ Hw; iintro Hw
  iapply (wp_load 𝒱₀ (c : Thread nD τ) none Set.univ (m := yM) (load_set yM j k)) $$ Hy; iintro Hy
  iapply (wp_store 𝒱₀ (c : Thread nD τ) none Set.univ (m := yM) (tile_set yM j k)) $$ Hy; iintro Hy
  iapply Hk
  isplitl [Hd]; · iexact Hd
  isplitl [Hw]; · iexact Hw
  rw [hpay]
  iapply (Entails.of_eq (slot_congr_y c j (mix_write_y j k s (mm d w) _ fun i h0 h1 => mm_tile j k d w i h0 h1))); iexact Hy

/-- A tile of a landed slot, its product written over it. -/
theorem wp_tile_landed (c : Dev nD) (j : Fin 4) (k : Fin 8) (s : CB F) (w : S8x1024x1024.Idx → Elt F .bf16)
    {pay : (S1x1x128x1024.Idx → Elt F .bf16) → (S1x1024x1024.Idx → Elt F .bf16) → (S1x1x128x1024.Idx → Elt F .bf16)}
    (hpay : ∀ x y, pay x y = k2_pay2 x y) {h1 h2 h3 hx hm}
    {α : Type} {Q : α → sProp 𝕄} {K : PUnit → Prog (TpuEff nD τ sig (Elt F) Λ₀ .tc) α} :
    iprop((wM.view.loc (c : Thread nD τ) ↦{fullShare} w) ∗ slotPts rM c j (mix k.val s (mm s w)))
      ⊢ iprop((((wM.view.loc (c : Thread nD τ) ↦{fullShare} w) ∗ slotPts rM c j (mix (k.val + 1) s (mm s w)))
            -∗ wp frame (wpE (defs₀ (F := F)) 𝒱₀ (c : Thread nD τ) none) Set.univ (K ⟨⟩) Q)
          -∗ wp frame (wpE (defs₀ (F := F)) 𝒱₀ (c : Thread nD τ) none) Set.univ
              (.op (.load rM (tileR j k).toLoadRect h1) fun x => .op (.load wM (wgtR k).toLoadRect h2) fun y =>
                .op (.load rM (tileR j k).toLoadRect h3) fun _ => .op (.store rM (tileR j k) (pay x y) Finset.univ hx hm) K) Q) := by
  iintro ⟨Hw, Hr⟩ Hk
  iapply (wp_load 𝒱₀ (c : Thread nD τ) none Set.univ (m := rM) (load_set rM j k)) $$ Hr; iintro Hr
  iapply (wp_load 𝒱₀ (c : Thread nD τ) none Set.univ (m := wM) (Finset.subset_univ _)) $$ Hw; iintro Hw
  iapply (wp_load 𝒱₀ (c : Thread nD τ) none Set.univ (m := rM) (load_set rM j k)) $$ Hr; iintro Hr
  iapply (wp_store 𝒱₀ (c : Thread nD τ) none Set.univ (m := rM) (tile_set rM j k)) $$ Hr; iintro Hr
  iapply Hk
  isplitl [Hw]; · iexact Hw
  rw [hpay, show rM.view.readAt (Elt F) (tileR j k).toLoadRect (mix k.val s (mm s w) : CB F) = fun x => s ((tileR j k).idx x)
    from funext fun x => mix_read j k s _ x]
  iapply (Entails.of_eq (slot_congr_r c j (mix_write_r j k s (mm s w) _ fun i h0 h1 => mm_tile j k s w i h0 h1))); iexact Hr

/-! ## The protocol's steps -/

/-- The twelve counters of a device that the exchange opens, then a barrier's, as cells. -/
def dsem (x : Fin 4 × Fin 3) : DmaSem sig := ⟨18 + 4 * x.1.val + x.2.val, by
  have := x.1.isLt; have := x.2.isLt; show _ < 38; omega⟩
theorem dsem_inj : Function.Injective dsem := by decide

def barEmb : Dev nD ↪ GSem nD τ sig := ⟨fun c => barCell c, fun _ _ h => congrArg (fun g : GSem nD τ sig => g.1.1) h⟩
def scEmb : Dev nD × (Fin 4 × Fin 3) ↪ GSem nD τ sig :=
  ⟨fun x => dCell x.1 (dsem x.2), fun x y h => by
    refine Prod.ext (congrArg (fun g : GSem nD τ sig => g.1.1) h) (dsem_inj ?_)
    have := congrArg Prod.snd h
    exact SemLoc.dma.inj this⟩
def barCells : Finset (GSem nD τ sig) := Finset.univ.map barEmb
def scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem sc_mem (c : Dev nD) (x : Fin 4 × Fin 3) : dCell c (dsem x) ∈ (barCells ∪ scCells : Finset (GSem nD τ sig)) :=
  Finset.mem_union_right _ (Finset.mem_map_of_mem scEmb (Finset.mem_univ (c, x)))

/-- The slots that travel. -/
inductive Far : Fin 4 → Prop
  | one : Far 1
  | two : Far 2
  | three : Far 3

theorem Far.neg {j : Fin 4} (h : Far j) : Far (-j) := by
  cases h
  · exact .three
  · exact .two
  · exact .one
theorem s1_mem (c : Dev nD) {j : Fin 4} (h : Far j) : dCell c (s1 j) ∈ (barCells ∪ scCells : Finset (GSem nD τ sig)) := by
  cases h
  · exact sc_mem c (0, 0)
  · exact sc_mem c (0, 1)
  · exact sc_mem c (0, 2)
theorem v1_mem (c : Dev nD) {j : Fin 4} (h : Far j) : dCell c (v1 j) ∈ (barCells ∪ scCells : Finset (GSem nD τ sig)) := by
  cases h
  · exact sc_mem c (1, 0)
  · exact sc_mem c (1, 1)
  · exact sc_mem c (1, 2)
theorem s2_mem (c : Dev nD) {j : Fin 4} (h : Far j) : dCell c (s2 j) ∈ (barCells ∪ scCells : Finset (GSem nD τ sig)) := by
  cases h
  · exact sc_mem c (2, 0)
  · exact sc_mem c (2, 1)
  · exact sc_mem c (2, 2)
theorem v2_mem (c : Dev nD) {j : Fin 4} (h : Far j) : dCell c (v2 j) ∈ (barCells ∪ scCells : Finset (GSem nD τ sig)) := by
  cases h
  · exact sc_mem c (3, 0)
  · exact sc_mem c (3, 1)
  · exact sc_mem c (3, 2)

variable (D : Dev nD → CB F) (Wt : Dev nD → S8x1024x1024.Idx → Elt F .bf16) (K : GSem nD τ sig → ℕ)

/-- Every counter's invariant, under the names `K`. -/
def invs : sProp 𝕄 := bigSep (barCells ∪ scCells) fun g => cellInv ER (sched D Wt) (K g) g

instance invs_persistent : BI.Persistent (invs (F := F) D Wt K) := by unfold invs; infer_instance

theorem inv_at {g : GSem nD τ sig} (hg : g ∈ (barCells ∪ scCells : Finset (GSem nD τ sig))) :
    invs (F := F) D Wt K ⊢ cellInv ER (sched D Wt) (K g) g := bigSep_elim hg

theorem neg_neg_slot (j : Fin 4) : - -j = j := by revert j; decide

/-- Signal `j`: the device lends its slot `j` of both landing buffers to device `c + j`, on that device's barrier. -/
theorem wp_lend (c n : Dev nD) {j : Fin 4} (hj : Far j) (hn : n = peer c j) (O : CellTallies nD τ sig Unit) (W : Waits sig Unit)
    {α : Type} {Q : α → sProp 𝕄} {k : PUnit → Prog (TpuEff nD τ sig (Elt F) Λ₀ .tc) α} :
    iprop(invs D Wt K ∗ owes (c : Thread nD τ) (O + oB c j) W ∗ dutyTok ER (barCell (peer c j)) 0 (-j) ∗ reached ER (barCell (peer c j)) 0
        ∗ (∃ f, slotPts rM c j f) ∗ (∃ f, slotPts yM c j f) ∗ reached ER (dCell c (v1 j)) 0 ∗ reached ER (dCell c (v2 j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS ((1#32 : BitVec 32).toInt)) k) Q) := by
  subst hn
  iintro ⟨#HI, HO, Ht, #Hr, Hrv, Hyv, #H1, #H2⟩
  iapply (Rounds.wp_signal 𝒱₀ ER (sched D Wt) (c : Thread nD τ) none (dst := (peer c j : Thread nD τ)) (κ := K (barCell (peer c j)))
      (r := 0) (d := -j) (by rw [duties_bar]; cases hj <;> decide) ((amount_bar D Wt (peer c j) (-j)).trans (by decide)) () O rfl)
  isplitr; · iapply (inv_at D Wt K (bar_mem (peer c j))); iexact HI
  isplitl [HO]; · iexact HO
  isplitl [Ht]; · iexact Ht
  isplitl
  · rw [payload_bar]; unfold barPay; rw [peer_neg, neg_neg_slot]
    isplitl [Hrv]; · iexact Hrv
    isplitl [Hyv]; · iexact Hyv
    isplitr; · iexact H1
    iexact H2
  iexact Hr

/-- The barrier wait: the three other devices' lent slots come with it. -/
theorem wp_barrier (c : Dev nD) (O : CellTallies nD τ sig Unit) (hO : Above 1 O) (W : Waits sig Unit)
    {α : Type} {Q : α → sProp 𝕄} {k : PUnit → Prog (TpuEff nD τ sig (Elt F) Λ₀ .tc) α} :
    iprop(invs D Wt K ∗ cred (tallyAt (barCell c) () 3) ∗ owes (c : Thread nD τ) O W ∗ levAts L lv ∗ atPos ER (barCell c) 0 ∅ 0)
      ⊢ iprop(((owes (c : Thread nD τ) O (insert (SemLoc.reg barS, ()) W) ∗ atPos ER (barCell c) (0 + 1) ∅ 0
            ∗ barPay c 1 ∗ barPay c 2 ∗ barPay c 3) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS ((3#32 : BitVec 32).toInt)) k) Q) := by
  iintro ⟨#HI, Hc, HO, #Hlev, Hat⟩ Hk
  iapply (Rounds.wp_wait_rest_token 𝒱₀ ER (sched D Wt) (c : Thread nD τ) none (κ := K (barCell c))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at D Wt K (bar_mem c)); iexact HI
    isplitl [Hc]; · iexact Hc
    isplitl [HO]; · iexact HO
    isplitr; · iapply (mayWait c (.reg barS) 1 (by decide) O hO); iexact Hlev
    iexact Hat
  iintro ⟨HO, Hat, -, Hpay⟩
  iapply Hk
  isplitl [HO]; · iexact HO
  isplitl [Hat]; · iexact Hat
  iapply (Entails.of_eq (rest_bar D Wt c)); iexact Hpay

/-- A wait on one of the twelve DMA counters, of level `l`, owing only above it. -/
theorem wp_take (c : Dev nD) (q : DmaSem sig) (hq : dCell c q ∈ (barCells ∪ scCells : Finset (GSem nD τ sig)))
    (l : ℕ) (hl : semLv (.dma q) ≤ l) (O : CellTallies nD τ sig Unit) (hO : Above l O) (W : Waits sig Unit)
    {src dst : Memref sig .tc .vmem S8x128x1024 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(invs D Wt K ∗ cred (tallyAt (dCell c q) () N) ∗ owes (c : Thread nD τ) O W ∗ levAts L lv ∗ atPos ER (dCell c q) 0 ∅ 0)
      ⊢ iprop(((owes (c : Thread nD τ) O (insert (SemLoc.dma q, ()) W) ∗ atPos ER (dCell c q) (0 + 1) ∅ 0
            ∗ (sched D Wt).payload (dCell c q) 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, #Hlev, Hat⟩ Hk
  iapply (Rounds.wp_wait_rest_token 𝒱₀ ER (sched D Wt) (c : Thread nD τ) none (κ := K (dCell c q))
      (wpE_waitDma2_eq 𝒱₀ (c : Thread nD τ) none Set.univ) (Set.mem_univ _) () (O := O) (W := W) (R := 0) (m := 0) (T := ∅)
      (by rw [Nat.zero_add, hN, expect_dma])) $$ [Hc HO Hat]
  · isplitr; · iapply (inv_at D Wt K hq); iexact HI
    isplitl [Hc]; · rw [hN]; iexact Hc
    isplitl [HO]; · iexact HO
    isplitr; · iapply (mayWait c (.dma q) l hl O hO); iexact Hlev
    iexact Hat
  iintro ⟨HO, Hat, -, Hpay⟩
  iapply Hk
  isplitl [HO]; · iexact HO
  isplitl [Hat]; · iexact Hat
  iapply (Entails.of_eq (rest_dma D Wt c q)); iexact Hpay

/-- What a copy into slot `jd` of device `c`'s landing buffer leaves there. -/
theorem landed_r (c : Dev nD) (js jd : Fin 4) (fs : CB F) (fd : CB F) (t : CB F)
    (ht : ∀ i : SB.Idx, i 0 = jd → fs (atSlot js i) = t i) :
    ((slotM rM jd).view.loc (c : Thread nD τ) ↦[(slotM rM jd).view.set]{fullShare}
        ((slotM rM jd).view.write (Elt F) fd ((slotM dM js).view.read (Elt F) fs) Finset.univ) : sProp 𝕄) = slotPts rM c jd t := by
  rw [slotM_set]
  exact slot_congr_r c jd fun i hi => (copied dM rM js jd fs fd i hi).trans (ht i hi)
theorem landed_y (c : Dev nD) (js jd : Fin 4) (fs : CB F) (fd : CB F) (t : CB F)
    (ht : ∀ i : SB.Idx, i 0 = jd → fs (atSlot js i) = t i) :
    ((slotM yM jd).view.loc (c : Thread nD τ) ↦[(slotM yM jd).view.set]{fullShare}
        ((slotM yM jd).view.write (Elt F) fd ((slotM rM js).view.read (Elt F) fs) Finset.univ) : sProp 𝕄) = slotPts yM c jd t := by
  rw [slotM_set]
  exact slot_congr_y c jd fun i hi => (copied rM yM js jd fs fd i hi).trans (ht i hi)

/-- Slot `j` sent out, to slot `-j` of device `c + j`'s landing buffer. -/
theorem wp_out (c n : Dev nD) {j i : Fin 4} (hj : Far j) (hi : i = -j) (hn : n = peer c j)
    (O : CellTallies nD τ sig Unit) (W : Waits sig Unit) (f : CB F)
    {src dst : Memref sig .tc .vmem S8x128x1024 .bf16} (hs : src = slotM dM j) (hd : dst = slotM rM i)
    {hsc : (show Memref sig (Dev.tc n : Thread nD τ).2.kind .vmem S8x128x1024 .bf16 from dst).view.ref.isScScratch = false}
    {hsrc : src.view.WordExact} {hdst : dst.view.WordExact}
    {hsem : DmaTarget.Typed .vmem (.dma (v1 i)) (.remote (Dev.tc n : Thread nD τ) dst (.dma (s1 j)) hsc)}
    {α : Type} {Q : α → sProp 𝕄} {k : PUnit → Prog (TpuEff nD τ sig (Elt F) Λ₀ .tc) α} :
    iprop(invs D Wt K ∗ slotPts dM c j (D c) ∗ slotPts rM (peer c j) (-j) f ∗ owes (c : Thread nD τ) (O + oP c j) W
        ∗ dutyTok ER (dCell c (s1 j)) 0 0 ∗ reached ER (dCell c (s1 j)) 0
        ∗ dutyTok ER (dCell (peer c j) (v1 (-j))) 0 0 ∗ reached ER (dCell (peer c j) (v1 (-j))) 0)
      ⊢ iprop(((cred (tallyAt (dCell c (s1 j)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (s1 j)) hsc) (.dma (v1 i)) hsrc hdst hsem) k) Q) := by
  subst hn hi hs hd
  iintro ⟨#HI, Hd, Hr, HO, H1⟩
  iapply (Rounds.wp_send_pointsTo 𝒱₀ ER (sched D Wt) (c : Thread nD τ) none (c' := (peer c j : Thread nD τ)) (src := slotM dM j) (dst := slotM rM (-j)) (sS := .dma (s1 j)) (sem := .dma (v1 (-j))) (κ₁ := K (dCell c (s1 j))) (κ₂ := K (dCell (peer c j) (v1 (-j))))
    (r₁ := 0) (r₂ := 0) (d₁ := 0) (d₂ := 0) (fd := f) (q := fullShare) (fs := D c)
    (by rw [duties_dma]; exact Finset.mem_singleton_self _) (by rw [duties_dma]; exact Finset.mem_singleton_self _)
    () () N (credit_r _) (amount_dma D Wt c (s1 j) 0) (amount_dma D Wt (peer c j) (v1 (-j)) 0) O rfl (W := W)
    (by rw [payload_s1, slotM_set]; exact BI.Entails.refl _)
    (by
      rw [payload_v1]; unfold pay1v
      refine Entails.of_eq (landed_r (peer c j) j (-j) (D c) f _ fun i hi => ?_)
      unfold recvd; rw [show slotOf i = -j from hi, peer_neg, neg_neg_slot]))
  isplitr; · iapply (inv_at D Wt K (s1_mem c hj)); iexact HI
  isplitr; · iapply (inv_at D Wt K (v1_mem (peer c j) hj.neg)); iexact HI
  isplitl [Hd]; · rw [slotM_set]; iexact Hd
  isplitl [Hr]; · rw [slotM_set]; iexact Hr
  isplitl [HO]; · iexact HO
  iexact H1

/-- Slot `j`, worked on, sent back, to slot `-j` of device `c + j`'s result. -/
theorem wp_back (c n : Dev nD) {j i : Fin 4} (hj : Far j) (hi : i = -j) (hn : n = peer c j)
    (O : CellTallies nD τ sig Unit) (W : Waits sig Unit) (f : CB F)
    {src dst : Memref sig .tc .vmem S8x128x1024 .bf16} (hs : src = slotM rM j) (hd : dst = slotM yM i)
    {hsc : (show Memref sig (Dev.tc n : Thread nD τ).2.kind .vmem S8x128x1024 .bf16 from dst).view.ref.isScScratch = false}
    {hsrc : src.view.WordExact} {hdst : dst.view.WordExact}
    {hsem : DmaTarget.Typed .vmem (.dma (v2 i)) (.remote (Dev.tc n : Thread nD τ) dst (.dma (s2 j)) hsc)}
    {α : Type} {Q : α → sProp 𝕄} {k : PUnit → Prog (TpuEff nD τ sig (Elt F) Λ₀ .tc) α} :
    iprop(invs D Wt K ∗ slotPts rM c j (mm (recvd D c) (Wt c)) ∗ slotPts yM (peer c j) (-j) f ∗ owes (c : Thread nD τ) (O + oQ c j) W
        ∗ dutyTok ER (dCell c (s2 j)) 0 0 ∗ reached ER (dCell c (s2 j)) 0
        ∗ dutyTok ER (dCell (peer c j) (v2 (-j))) 0 0 ∗ reached ER (dCell (peer c j) (v2 (-j))) 0)
      ⊢ iprop(((cred (tallyAt (dCell c (s2 j)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (s2 j)) hsc) (.dma (v2 i)) hsrc hdst hsem) k) Q) := by
  subst hn hi hs hd
  iintro ⟨#HI, Hd, Hr, HO, H1⟩
  iapply (Rounds.wp_send_pointsTo 𝒱₀ ER (sched D Wt) (c : Thread nD τ) none (c' := (peer c j : Thread nD τ)) (src := slotM rM j) (dst := slotM yM (-j)) (sS := .dma (s2 j)) (sem := .dma (v2 (-j))) (κ₁ := K (dCell c (s2 j))) (κ₂ := K (dCell (peer c j) (v2 (-j))))
    (r₁ := 0) (r₂ := 0) (d₁ := 0) (d₂ := 0) (fd := f) (q := fullShare) (fs := mm (recvd D c) (Wt c))
    (by rw [duties_dma]; exact Finset.mem_singleton_self _) (by rw [duties_dma]; exact Finset.mem_singleton_self _)
    () () N (credit_y _) (amount_dma D Wt c (s2 j) 0) (amount_dma D Wt (peer c j) (v2 (-j)) 0) O rfl (W := W)
    (by rw [payload_s2, slotM_set]; exact BI.Entails.refl _)
    (by
      rw [payload_v2]; unfold pay2v
      refine Entails.of_eq (landed_y (peer c j) j (-j) (mm (recvd D c) (Wt c)) f _ fun i hi => ?_)
      unfold answer; rw [show slotOf i = -j from hi, peer_neg, neg_neg_slot]))
  isplitr; · iapply (inv_at D Wt K (s2_mem c hj)); iexact HI
  isplitr; · iapply (inv_at D Wt K (v2_mem (peer c j) hj.neg)); iexact HI
  isplitl [Hd]; · rw [slotM_set]; iexact Hd
  isplitl [Hr]; · rw [slotM_set]; iexact Hr
  isplitl [HO]; · iexact HO
  iexact H1

/-- A counter waited on closes. -/
theorem close (g : GSem nD τ sig) (hg : g ∈ (barCells ∪ scCells : Finset (GSem nD τ sig))) :
    iprop(invs D Wt K ∗ atPos ER g (0 + 1) ∅ 0) ⊢ (|={Set.univ}=> semVal g 0 : sProp 𝕄) :=
  (sep_mono_left (inv_at D Wt K hg)).trans
    (Rounds.cell_close ER (sched D Wt) (Set.mem_univ (K g)) (fun h => h) (R := 0 + 1) (duties_later D Wt g))

end Cert.Proof.Moe

end
-- ==== Proof.MoeBody.lean ====
/-
The exchange's body, at a symbolic device: from what the device holds when it enters to what it holds when it leaves, one step
per effect in program order.
-/
module

public import proofs.«01_k».proof.Proof.Steps

@[expose] public section

set_option maxRecDepth 16384

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The devices that a signal or a copy names -/

theorem dev1_eq (c : Dev nD) : (⟨k2_dev1 c, k2_dev1_lt c⟩ : Dev nD) = peer c 1 := by revert c; decide
theorem dev2_eq (c : Dev nD) : (⟨k2_dev2 c, k2_dev2_lt c⟩ : Dev nD) = peer c 2 := by revert c; decide
theorem dev3_eq (c : Dev nD) : (⟨k2_dev3 c, k2_dev3_lt c⟩ : Dev nD) = peer c 3 := by revert c; decide
theorem dev4_eq (c : Dev nD) : (⟨k2_dev4 c, k2_dev4_lt c⟩ : Dev nD) = peer c 1 := by revert c; decide
theorem dev5_eq (c : Dev nD) : (⟨k2_dev5 c, k2_dev5_lt c⟩ : Dev nD) = peer c 2 := by revert c; decide
theorem dev6_eq (c : Dev nD) : (⟨k2_dev6 c, k2_dev6_lt c⟩ : Dev nD) = peer c 3 := by revert c; decide
theorem dev7_eq (c : Dev nD) : (⟨k2_dev7 c, k2_dev7_lt c⟩ : Dev nD) = peer c 1 := by revert c; decide
theorem dev8_eq (c : Dev nD) : (⟨k2_dev8 c, k2_dev8_lt c⟩ : Dev nD) = peer c 2 := by revert c; decide
theorem dev9_eq (c : Dev nD) : (⟨k2_dev9 c, k2_dev9_lt c⟩ : Dev nD) = peer c 3 := by revert c; decide

/-! ## A buffer and its four slots -/

/-- One resource for each slot that travels. -/
def each (Φ : Fin 4 → sProp 𝕄) : sProp 𝕄 := iprop(Φ 1 ∗ Φ 2 ∗ Φ 3)

theorem slots_r (c : Dev nD) (f : CB F) : (rM.view.loc (c : Thread nD τ) ↦{fullShare} f : sProp 𝕄)
    = iprop(slotPts rM c 0 f ∗ slotPts rM c 1 f ∗ slotPts rM c 2 f ∗ slotPts rM c 3 f) :=
  (congrArg (fun S => (rM.view.loc (c : Thread nD τ) ↦[S]{fullShare} f : sProp 𝕄)) (by
      ext i; simp only [Finset.mem_univ, Finset.mem_biUnion, true_and, true_iff]
      exact ⟨slotOf i, (rM.view.mem_setOn (x := i)).mpr ((mem_slotR _ _).mpr rfl)⟩ :
    (Finset.univ : Finset (Idx (rM.view.loc (c : Thread nD τ)))) = Finset.univ.biUnion fun j : Fin 4 => rM.view.setOn (slotR j).set)).trans
    ((pointsTo_biUnion (ℓ := rM.view.loc (c : Thread nD τ)) Finset.univ (fun j : Fin 4 => rM.view.setOn (slotR j).set)
      fun j _ j' _ h => (Finset.disjoint_map _).mpr (slots_disjoint h)).trans
      (bigSep_univ_eq_bigSepL [0, 1, 2, 3] (by decide) (by decide) _))
theorem slots_d (c : Dev nD) (f : CB F) : (dM.view.loc (c : Thread nD τ) ↦{fullShare} f : sProp 𝕄)
    = iprop(slotPts dM c 0 f ∗ slotPts dM c 1 f ∗ slotPts dM c 2 f ∗ slotPts dM c 3 f) :=
  (congrArg (fun S => (dM.view.loc (c : Thread nD τ) ↦[S]{fullShare} f : sProp 𝕄)) (by
      ext i; simp only [Finset.mem_univ, Finset.mem_biUnion, true_and, true_iff]
      exact ⟨slotOf i, (dM.view.mem_setOn (x := i)).mpr ((mem_slotR _ _).mpr rfl)⟩ :
    (Finset.univ : Finset (Idx (dM.view.loc (c : Thread nD τ)))) = Finset.univ.biUnion fun j : Fin 4 => dM.view.setOn (slotR j).set)).trans
    ((pointsTo_biUnion (ℓ := dM.view.loc (c : Thread nD τ)) Finset.univ (fun j : Fin 4 => dM.view.setOn (slotR j).set)
      fun j _ j' _ h => (Finset.disjoint_map _).mpr (slots_disjoint h)).trans
      (bigSep_univ_eq_bigSepL [0, 1, 2, 3] (by decide) (by decide) _))
theorem slots_y (c : Dev nD) (f : CB F) : (yM.view.loc (c : Thread nD τ) ↦{fullShare} f : sProp 𝕄)
    = iprop(slotPts yM c 0 f ∗ slotPts yM c 1 f ∗ slotPts yM c 2 f ∗ slotPts yM c 3 f) :=
  (congrArg (fun S => (yM.view.loc (c : Thread nD τ) ↦[S]{fullShare} f : sProp 𝕄)) (by
      ext i; simp only [Finset.mem_univ, Finset.mem_biUnion, true_and, true_iff]
      exact ⟨slotOf i, (yM.view.mem_setOn (x := i)).mpr ((mem_slotR _ _).mpr rfl)⟩ :
    (Finset.univ : Finset (Idx (yM.view.loc (c : Thread nD τ)))) = Finset.univ.biUnion fun j : Fin 4 => yM.view.setOn (slotR j).set)).trans
    ((pointsTo_biUnion (ℓ := yM.view.loc (c : Thread nD τ)) Finset.univ (fun j : Fin 4 => yM.view.setOn (slotR j).set)
      fun j _ j' _ h => (Finset.disjoint_map _).mpr (slots_disjoint h)).trans
      (bigSep_univ_eq_bigSepL [0, 1, 2, 3] (by decide) (by decide) _))

/-- The device's own slot of the answer. -/
theorem own_answer (D : Dev nD → CB F) (Wt : Dev nD → S8x1024x1024.Idx → Elt F .bf16) (c : Dev nD) (i : SB.Idx) (hi : i 0 = (0 : Fin 4)) :
    mm (D c) (Wt c) i = answer D Wt c i := by
  have e : slotOf i = 0 := hi
  have ei : atSlot (-(slotOf i)) i = i := by
    rw [e]; funext a; fin_cases a
    · exact e.symm
    · rfl
    · rfl
    · rfl
  unfold answer
  rw [ei, e, peer_zero]
  unfold mm
  refine congrArg (fun d => k2_pay2 d _ _) (funext fun x => ?_)
  have h0 : slotOf ((tileR (i 0) (i 1)).idx x) = 0 := ((mem_tileR (i 0) (i 1) _).mp ((tileR (i 0) (i 1)).idx_mem x)).1.trans hi
  unfold recvd
  rw [h0, peer_zero]
  refine congrArg (D c) ?_
  funext a; fin_cases a
  · exact h0
  · rfl
  · rfl
  · rfl

theorem credit_d (j : Fin 4) : (slotM dM j).view.dmaCredit = N := rfl

theorem two_zero : (![0, 0] : Fin 2 → ℕ) = fun _ => 0 := by funext a; fin_cases a <;> rfl

/-- The receive buffer whole again, whatever its slots hold. -/
theorem join_r (c : Dev nD) (f g : CB F) :
    iprop(slotPts rM c 0 f ∗ slotPts rM c 1 g ∗ slotPts rM c 2 g ∗ slotPts rM c 3 g)
      ⊢ iprop(∃ h : CB F, (rM.view.loc (c : Thread nD τ) ↦{fullShare} h : sProp 𝕄)) := by
  iintro ⟨H0, H1, H2, H3⟩
  iexists (fun i => if slotOf i = 0 then f i else g i)
  iapply (Entails.of_eq (slots_r c (fun i => if slotOf i = 0 then f i else g i)).symm)
  isplitl [H0]; · iapply (Entails.of_eq (slot_congr_r c 0 (f := f) (g := fun i => if slotOf i = 0 then f i else g i) fun i hi => (if_pos hi).symm)); iexact H0
  isplitl [H1]; · iapply (Entails.of_eq (slot_congr_r c 1 (f := g) (g := fun i => if slotOf i = 0 then f i else g i) fun i hi => (if_neg fun e => absurd (hi.symm.trans e) (show ((1 : Fin 4)) ≠ 0 by decide)).symm)); iexact H1
  isplitl [H2]; · iapply (Entails.of_eq (slot_congr_r c 2 (f := g) (g := fun i => if slotOf i = 0 then f i else g i) fun i hi => (if_neg fun e => absurd (hi.symm.trans e) (show ((2 : Fin 4)) ≠ 0 by decide)).symm)); iexact H2
  iapply (Entails.of_eq (slot_congr_r c 3 (f := g) (g := fun i => if slotOf i = 0 then f i else g i) fun i hi => (if_neg fun e => absurd (hi.symm.trans e) (show ((3 : Fin 4)) ≠ 0 by decide)).symm)); iexact H3

/-- The shared product, as the body writes it. -/
theorem shared_write (fsh : S2048x1024.Idx → Elt F .f32) (x : S2048x1024.Idx → Elt F .bf16) (sw : S1024x1024.Idx → Elt F .bf16) :
    ((Memref.whole cc2_stg5_0 : Memref sig .tc .vmem S2048x1024 .f32).access (Rect.unit (s := S2048x1024) ![0, 0] S2048x1024.size inb_S2048x1024_S2048x1024_0_0)).write (Elt F) fsh
      (k2_pay1
        ((Memref.whole cc2_stg1_0 : Memref sig .tc .vmem S2048x1024 .bf16).view.readAt (Elt F) (Rect.unit (s := S2048x1024) ![0, 0] S2048x1024.size inb_S2048x1024_S2048x1024_0_0).toLoadRect x : Vec F S2048x1024 .bf16)
        ((Memref.whole cc2_stg2_0 : Memref sig .tc .vmem S1024x1024 .bf16).view.readAt (Elt F) (Rect.unit (s := S1024x1024) ![0, 0] S1024x1024.size inb_S1024x1024_S1024x1024_0_0).toLoadRect sw : Vec F S1024x1024 .bf16))
      Finset.univ = k2_pay1 x sw :=
  (Memref.write_access_unit_zero_univ (Elt F) cc2_stg5_0 two_zero _ fsh _).trans
    (congrArg₂ k2_pay1 (Memref.readAt_unit_zero (Elt F) cc2_stg1_0 two_zero _ x) (Memref.readAt_unit_zero (Elt F) cc2_stg2_0 two_zero _ sw))

section Body

variable (D : Dev nD → CB F) (Wt : Dev nD → S8x1024x1024.Idx → Elt F .bf16) (K : GSem nD τ sig → ℕ)

/-- The twelve counters' positions, that they are at round 0, and the rights to pay on the other devices' counters and on its own. -/
def atStart (c : Dev nD) (j : Fin 4) : sProp 𝕄 :=
  iprop(atPos ER (dCell c (s1 j)) 0 ∅ 0 ∗ atPos ER (dCell c (v1 j)) 0 ∅ 0 ∗ atPos ER (dCell c (s2 j)) 0 ∅ 0 ∗ atPos ER (dCell c (v2 j)) 0 ∅ 0)
def began (c : Dev nD) (j : Fin 4) : sProp 𝕄 :=
  iprop(reached ER (dCell c (s1 j)) 0 ∗ reached ER (dCell c (v1 j)) 0 ∗ reached ER (dCell c (s2 j)) 0 ∗ reached ER (dCell c (v2 j)) 0)
def rights (c : Dev nD) (j : Fin 4) : sProp 𝕄 :=
  iprop(dutyTok ER (barCell (peer c j)) 0 (-j) ∗ dutyTok ER (dCell c (s1 j)) 0 0 ∗ dutyTok ER (dCell (peer c j) (v1 (-j))) 0 0
    ∗ dutyTok ER (dCell c (s2 j)) 0 0 ∗ dutyTok ER (dCell (peer c j) (v2 (-j))) 0 0)
def closed (c : Dev nD) (j : Fin 4) : sProp 𝕄 :=
  iprop(semVal (dCell c (s1 j)) 0 ∗ semVal (dCell c (v1 j)) 0 ∗ semVal (dCell c (s2 j)) 0 ∗ semVal (dCell c (v2 j)) 0)
def arrivals (c : Dev nD) (j : Fin 4) : sProp 𝕄 :=
  iprop(cred (tallyAt (dCell c (v1 j)) () N) ∗ cred (tallyAt (dCell c (v2 j)) () N))

/-- The ghost state that a device enters the exchange with. -/
def ghost (c : Dev nD) : sProp 𝕄 :=
  iprop(invs D Wt K ∗ atPos ER (barCell c) 0 ∅ 0 ∗ each (atStart c) ∗ each (began c) ∗ each (fun j => reached ER (barCell (peer c j)) 0)
    ∗ each (rights c) ∗ cred (tallyAt (barCell c) () 3) ∗ each (arrivals c) ∗ levAts L lv)

/-- The exchange's buffers before it, -/
def bufsPre (c : Dev nD) (x : S2048x1024.Idx → Elt F .bf16) (sw : S1024x1024.Idx → Elt F .bf16) : sProp 𝕄 :=
  iprop((dM.view.loc (c : Thread nD τ) ↦{fullShare} D c) ∗ ((Memref.whole cc2_stg1_0 : Memref sig .tc .vmem S2048x1024 .bf16).view.loc (c : Thread nD τ) ↦{fullShare} x)
    ∗ ((Memref.whole cc2_stg2_0 : Memref sig .tc .vmem S1024x1024 .bf16).view.loc (c : Thread nD τ) ↦{fullShare} sw) ∗ (wM.view.loc (c : Thread nD τ) ↦{fullShare} Wt c)
    ∗ (∃ f : CB F, yM.view.loc (c : Thread nD τ) ↦{fullShare} f)
    ∗ (∃ f : S2048x1024.Idx → Elt F .f32, (Memref.whole cc2_stg5_0 : Memref sig .tc .vmem S2048x1024 .f32).view.loc (c : Thread nD τ) ↦{fullShare} f)
    ∗ (∃ f : CB F, rM.view.loc (c : Thread nD τ) ↦{fullShare} f))
/-- and after it. -/
def bufsPost (c : Dev nD) (x : S2048x1024.Idx → Elt F .bf16) (sw : S1024x1024.Idx → Elt F .bf16) : sProp 𝕄 :=
  iprop((dM.view.loc (c : Thread nD τ) ↦{fullShare} D c) ∗ ((Memref.whole cc2_stg1_0 : Memref sig .tc .vmem S2048x1024 .bf16).view.loc (c : Thread nD τ) ↦{fullShare} x)
    ∗ ((Memref.whole cc2_stg2_0 : Memref sig .tc .vmem S1024x1024 .bf16).view.loc (c : Thread nD τ) ↦{fullShare} sw) ∗ (wM.view.loc (c : Thread nD τ) ↦{fullShare} Wt c)
    ∗ (yM.view.loc (c : Thread nD τ) ↦{fullShare} answer D Wt c)
    ∗ ((Memref.whole cc2_stg5_0 : Memref sig .tc .vmem S2048x1024 .f32).view.loc (c : Thread nD τ) ↦{fullShare} k2_pay1 x sw)
    ∗ (∃ f : CB F, rM.view.loc (c : Thread nD τ) ↦{fullShare} f))

set_option maxHeartbeats 1000000 in
/-- The body runs from the ghost state, what is owed, and the buffers, to every counter at zero, nothing owed, and the answers. -/
theorem exchange (c : Dev nD) (x : S2048x1024.Idx → Elt F .bf16) (sw : S1024x1024.Idx → Elt F .bf16) (W : Waits sig Unit) (Q : PUnit → sProp 𝕄) :
    iprop((ghost D Wt K c ∗ owes (c : Thread nD τ) (O₀ c) W ∗ bufsPre D Wt c x sw)
        ∗ ((semVal (barCell c) 0 ∗ each (closed c) ∗ (∃ W', owes (c : Thread nD τ) 0 W') ∗ bufsPost D Wt c x sw) -∗ Q ⟨⟩))
      ⊢ wp frame (wpE (defs₀ (F := F)) 𝒱₀ c none) Set.univ
          (cc2__moe_body (Memref.whole cc2_stg0_0) (Memref.isWhole_whole _) (Memref.whole cc2_stg1_0) (Memref.isWhole_whole _)
            (Memref.whole cc2_stg2_0) (Memref.isWhole_whole _) (Memref.whole cc2_stg3_0) (Memref.isWhole_whole _)
            (Memref.whole cc2_stg4_0) (Memref.isWhole_whole _) (Memref.whole cc2_stg5_0) (Memref.isWhole_whole _)
            (Memref.whole cc2_scratch0) (Memref.isWhole_whole _) cc2_scratch1 cc2_scratch2 cc2_scratch3 cc2_scratch4) Q := by
  simp only [cc2__moe_body_eq_skeleton]; unfold cc2__moe_body_skel
  unfold ghost each atStart began rights arrivals bufsPre
  iintro ⟨⟨⟨#HI, HaB, ⟨⟨Ha1s, Ha1v, Ha1t, Ha1w⟩, ⟨Ha2s, Ha2v, Ha2t, Ha2w⟩, ⟨Ha3s, Ha3v, Ha3t, Ha3w⟩⟩,
      ⟨⟨#Hr1s, #Hr1v, #Hr1t, #Hr1w⟩, ⟨#Hr2s, #Hr2v, #Hr2t, #Hr2w⟩, ⟨#Hr3s, #Hr3v, #Hr3t, #Hr3w⟩⟩, ⟨#HrB1, #HrB2, #HrB3⟩,
      ⟨⟨Ht1b, Ht1s, Ht1v, Ht1t, Ht1w⟩, ⟨Ht2b, Ht2s, Ht2v, Ht2t, Ht2w⟩, ⟨Ht3b, Ht3s, Ht3v, Ht3t, Ht3w⟩⟩, HcB,
      ⟨⟨Hc1v, Hc1w⟩, ⟨Hc2v, Hc2w⟩, ⟨Hc3v, Hc3w⟩⟩, #Hlev⟩, HO, Hd, Hx, Hsw, Hw, ⟨%fy, Hy⟩, ⟨%fsh, Hsh⟩, ⟨%fr, Hr⟩⟩, Hk⟩
  ihave Hd' := (Entails.of_eq (slots_d c (D c))) $$ Hd
  icases Hd' with ⟨Hd0, Hd1, Hd2, Hd3⟩
  ihave Hr' := (Entails.of_eq (slots_r c fr)) $$ Hr
  icases Hr' with ⟨Hrz, Hl1, Hl2, Hl3⟩
  ihave Hy' := (Entails.of_eq (slots_y c fy)) $$ Hy
  icases Hy' with ⟨Hy0, Hy1, Hy2, Hy3⟩
  -- the three signals and the barrier
  simp only [k2_part1_eq_skeleton, k2_part2_eq_skeleton]
  unfold k2_part1_skel k2_part2_skel
  simp only [semSignalWord, semWaitWord, Prog.lift, Prog.bind_op, Prog.bind_ret, Prog.pure_eq_ret, Prog.bind_assoc, wp_deviceId]
  unfold O₀
  iapply (wp_lend D Wt K c _ (j := 1) .one (dev1_eq c) (owP c + oB c 3 + oB c 2) W) $$ [HO Ht1b Hl1 Hy1]
  · isplitr; · iexact HI
    isplitl [HO]; · iexact HO
    isplitl [Ht1b]; · iexact Ht1b
    isplitr; · iexact HrB1
    isplitl [Hl1]; · iexists fr; iexact Hl1
    isplitl [Hy1]; · iexists fy; iexact Hy1
    isplitr; · iexact Hr1v
    iexact Hr1w
  iintro HO
  iapply (wp_lend D Wt K c _ (j := 2) .two (dev2_eq c) (owP c + oB c 3) W) $$ [HO Ht2b Hl2 Hy2]
  · isplitr; · iexact HI
    isplitl [HO]; · iexact HO
    isplitl [Ht2b]; · iexact Ht2b
    isplitr; · iexact HrB2
    isplitl [Hl2]; · iexists fr; iexact Hl2
    isplitl [Hy2]; · iexists fy; iexact Hy2
    isplitr; · iexact Hr2v
    iexact Hr2w
  iintro HO
  iapply (wp_lend D Wt K c _ (j := 3) .three (dev3_eq c) (owP c) W) $$ [HO Ht3b Hl3 Hy3]
  · isplitr; · iexact HI
    isplitl [HO]; · iexact HO
    isplitl [Ht3b]; · iexact Ht3b
    isplitr; · iexact HrB3
    isplitl [Hl3]; · iexists fr; iexact Hl3
    isplitl [Hy3]; · iexists fy; iexact Hy3
    isplitr; · iexact Hr3v
    iexact Hr3w
  iintro HO
  iapply (wp_barrier D Wt K c (owP c) (above_owP c) W) $$ [HcB HO HaB]
  · isplitr; · iexact HI
    isplitl [HcB]; · iexact HcB
    isplitl [HO]; · iexact HO
    isplitr; · iexact Hlev
    iexact HaB
  unfold barPay
  iintro ⟨HO, HaB, ⟨⟨%f1, Hp1⟩, ⟨%g1, Hq1⟩, #Hs1v, #Hs1w⟩, ⟨⟨%f2, Hp2⟩, ⟨%g2, Hq2⟩, #Hs2v, #Hs2w⟩, ⟨⟨%f3, Hp3⟩, ⟨%g3, Hq3⟩, #Hs3v, #Hs3w⟩⟩
  -- the three slots sent out
  simp only [k2_part3_eq_skeleton, k2_part4_eq_skeleton]
  unfold k2_part3_skel k2_part4_skel
  simp only [semSignalWord, semWaitWord, Prog.lift, Prog.bind_op, Prog.bind_ret, Prog.pure_eq_ret, Prog.bind_assoc, wp_deviceId]
  unfold owP
  iapply (wp_out D Wt K c _ (j := 1) (i := 3) .one (by decide) (dev4_eq c) (owQ c + oP c 3 + oP c 2) _ f1 rfl rfl) $$ [Hd1 Hp1 HO Ht1s Ht1v]
  · isplitr; · iexact HI
    isplitl [Hd1]; · iexact Hd1
    isplitl [Hp1]; · iexact Hp1
    isplitl [HO]; · iexact HO
    isplitl [Ht1s]; · iexact Ht1s
    isplitr; · iexact Hr1s
    isplitl [Ht1v]; · iexact Ht1v
    iexact Hs1v
  iintro ⟨Hc1s, HO⟩
  iapply (wp_out D Wt K c _ (j := 2) (i := 2) .two (by decide) (dev5_eq c) (owQ c + oP c 3) _ f2 rfl rfl) $$ [Hd2 Hp2 HO Ht2s Ht2v]
  · isplitr; · iexact HI
    isplitl [Hd2]; · iexact Hd2
    isplitl [Hp2]; · iexact Hp2
    isplitl [HO]; · iexact HO
    isplitl [Ht2s]; · iexact Ht2s
    isplitr; · iexact Hr2s
    isplitl [Ht2v]; · iexact Ht2v
    iexact Hs2v
  iintro ⟨Hc2s, HO⟩
  iapply (wp_out D Wt K c _ (j := 3) (i := 1) .three (by decide) (dev6_eq c) (owQ c) _ f3 rfl rfl) $$ [Hd3 Hp3 HO Ht3s Ht3v]
  · isplitr; · iexact HI
    isplitl [Hd3]; · iexact Hd3
    isplitl [Hp3]; · iexact Hp3
    isplitl [HO]; · iexact HO
    isplitl [Ht3s]; · iexact Ht3s
    isplitr; · iexact Hr3s
    isplitl [Ht3v]; · iexact Ht3v
    iexact Hs3v
  iintro ⟨Hc3s, HO⟩
  -- the shared product
  iapply (wp_load 𝒱₀ (c : Thread nD τ) none Set.univ (m := Memref.whole cc2_stg1_0) (Finset.subset_univ _)) $$ Hx; iintro Hx
  iapply (wp_load 𝒱₀ (c : Thread nD τ) none Set.univ (m := Memref.whole cc2_stg2_0) (Finset.subset_univ _)) $$ Hsw; iintro Hsw
  iapply (wp_load 𝒱₀ (c : Thread nD τ) none Set.univ (m := Memref.whole cc2_stg5_0) (Finset.subset_univ _)) $$ Hsh; iintro Hsh
  iapply (wp_store 𝒱₀ (c : Thread nD τ) none Set.univ (m := Memref.whole cc2_stg5_0) (r := Rect.unit ![0, 0] ![2048, 1024] inb_S2048x1024_S2048x1024_0_0) (Mk := Finset.univ) (Finset.subset_univ _)) $$ Hsh; iintro Hsh
  -- the device's own slot, tile by tile
  simp only [k2_part5_eq_skeleton, k2_part6_eq_skeleton, k2_part7_eq_skeleton]
  unfold k2_part5_skel k2_part6_skel k2_part7_skel
  simp only [semSignalWord, semWaitWord, Prog.lift, Prog.bind_op, Prog.bind_ret, Prog.pure_eq_ret, Prog.bind_assoc, wp_deviceId]
  rw [← mix_zero fy (mm (D c) (Wt c))]
  iapply (wp_tile_own c 0 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  iapply (wp_tile_own c 1 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  iapply (wp_tile_own c 2 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  iapply (wp_tile_own c 3 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  iapply (wp_tile_own c 4 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  iapply (wp_tile_own c 5 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  iapply (wp_tile_own c 6 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  iapply (wp_tile_own c 7 0 rfl (D c) fy (Wt c) (fun _ _ => rfl)) $$ [Hd0 Hw Hy0]
  · isplitl [Hd0]; · iexact Hd0
    isplitl [Hw]; · iexact Hw
    iexact Hy0
  iintro ⟨Hd0, Hw, Hy0⟩
  -- slot 1 arrives, is worked on, and is sent back
  simp only [k2_part8_eq_skeleton, k2_part9_eq_skeleton, k2_part10_eq_skeleton, k2_part11_eq_skeleton]
  unfold k2_part8_skel k2_part9_skel k2_part10_skel k2_part11_skel
  simp only [semSignalWord, semWaitWord, Prog.lift, Prog.bind_op, Prog.bind_ret, Prog.pure_eq_ret, Prog.bind_assoc, wp_deviceId]
  iapply (wp_take D Wt K c (v1 1) (v1_mem c .one) 2 (by decide) (owQ c) (above_owQ c) _ (credit_r 1)) $$ [Hc1v HO Ha1v]
  · isplitr; · iexact HI
    isplitl [Hc1v]; · iexact Hc1v
    isplitl [HO]; · iexact HO
    isplitr; · iexact Hlev
    iexact Ha1v
  iintro ⟨HO, Ha1v, Hpay⟩
  ihave Hm1 := (Entails.of_eq ((payload_v1 D Wt c 1 0).trans (congrArg (fun f : CB F => slotPts rM c 1 f) (mix_zero (recvd D c) (mm (recvd D c) (Wt c))).symm))) $$ Hpay
  iapply (wp_tile_landed c 1 0 (recvd D c) (Wt c) (fun _ _ => rfl)) $$ [Hw Hm1]
  · isplitl [Hw]; · iexact Hw
    iexact Hm1
  iintro ⟨Hw, Hm1⟩
  iapply (wp_tile_landed c 1 1 (recvd D c) (Wt c) (fun _ _ => rfl)) $$ [Hw Hm1]
  · isplitl [Hw]; · iexact Hw
    iexact Hm1
  iintro ⟨Hw, Hm1⟩
  iapply (wp_tile_landed c 1 2 (recvd D c) (Wt c) (fun _ _ => rfl)) $$ [Hw Hm1]
  · isplitl [Hw]; · iexact Hw
    iexact Hm1
  iintro ⟨Hw, Hm1⟩
  iapply (wp_tile_landed c 1 3 (recvd D c) (Wt c) (fun _ _ => rfl)) $$ [Hw Hm1]
  · isplitl [Hw]; · iexact Hw
    iexact Hm1
  iintro ⟨Hw, Hm1⟩
  iapply (wp_tile_landed c 1 4 (recvd D c) (Wt c) (fun _ _ => rfl)) $$ [Hw Hm1]
  · isplitl [Hw]; · iexact Hw
    iexact Hm1
  iintro ⟨Hw, Hm1⟩
  iapply (wp_tile_landed c 1 5 (recvd D c) (Wt c) (fun _ _ => rfl)) $$ [Hw Hm1]
  · isplitl [Hw]; · iexact Hw
    iexact Hm1
  iintro ⟨Hw, Hm1⟩
  iapply (wp_tile_landed c 1 6 (recvd D c) (Wt c) (fun _ _ => rfl)) $$ [Hw Hm1]
  · isplitl [Hw]; · iexact Hw
    iexact Hm1
  iintro ⟨Hw, Hm1⟩
  iapply (wp_tile_landed c 1 7 (recvd D c) (Wt c) (fun _ _ => rfl)) $$ [Hw Hm1]
  · isplitl [Hw]; · iexact Hw
    iexact Hm1
  iintro ⟨Hw, Hm1⟩
  unfold owQ
  iapply (wp_back D Wt K c _ (j := 1) (i := 3) .one (by decide) (dev7_eq c) (oQ c 3 + oQ c 2) _ g1 rfl rfl) $$ [Hm1 Hq1 HO Ht1t Ht1w]
  · isplitr; · iexact HI
    isplitl [Hm1]
    · iapply (Entails.of_eq (congrArg (fun f : CB F => slotPts rM c 1 f) (mix_all (recvd D c) (mm (recvd D c) (Wt c))))); iexact Hm1
    isplitl [Hq1]; · iexact Hq1
    isplitl [HO]; · iexact HO
    isplitl [Ht1t]; · iexact Ht1t
    isplitr; · iexact Hr1t
    isplitl [Ht1w]; · iexact Ht1w
    iexact Hs1w
  iintro ⟨Hc1t, HO⟩
  -- slot 2 arrives, is worked on, and is sent back
  simp only [k2_part12_eq_skeleton, k2_part13_eq_skeleton, k2_part14_eq_skeleton, k2_part15_eq_skeleton, k2_part16_eq_skeleton]
  unfold k2_part12_skel k2_part13_skel k2_part14_skel k2_part15_skel k2_part16_skel
  simp only [semSignalWord, semWaitWord, Prog.lift, Prog.bind_op, Prog.bind_ret, Prog.pure_eq_ret, Prog.bind_assoc, wp_deviceId]
  iapply (wp_take D Wt K c (v1 2) (v1_mem c .two) 2 (by decide) (oQ c 3 + oQ c 2) ((above_oQ c 3).add (above_oQ c 2)) _ (credit_r 2)) $$ [Hc2v HO Ha2v]
  · isplitr; · iexact HI
    isplitl [Hc2v]; · iexact Hc2v
    isplitl [HO]; · iexact HO
    isplitr; · iexact Hlev
    iexact Ha2v
  iintro ⟨HO, Ha2v, Hpay⟩
  ihave Hm2 := (Entails.of_eq ((payload_v1 D Wt c 2 0).trans (congrArg (fun f : CB F => slotPts rM c 2 f) (mix_zero (recvd D c) (mm (recvd D c) (Wt c))).symm))) $$ Hpay
  iapply (wp_tile_landed c 2 0 (recvd D c) (Wt c) (fun _ _ => rfl)) $$ [Hw Hm2]
  · isplitl [Hw]; · iexact Hw
    iexact Hm2
  iintro ⟨Hw, Hm2⟩
  iapply (wp_tile_landed c 2 1 (recvd D c) (Wt c) (fun _ _ => rfl)) $$ [Hw Hm2]
  · isplitl [Hw]; · iexact Hw
    iexact Hm2
  iintro ⟨Hw, Hm2⟩
  iapply (wp_tile_landed c 2 2 (recvd D c) (Wt c) (fun _ _ => rfl)) $$ [Hw Hm2]
  · isplitl [Hw]; · iexact Hw
    iexact Hm2
  iintro ⟨Hw, Hm2⟩
  iapply (wp_tile_landed c 2 3 (recvd D c) (Wt c) (fun _ _ => rfl)) $$ [Hw Hm2]
  · isplitl [Hw]; · iexact Hw
    iexact Hm2
  iintro ⟨Hw, Hm2⟩
  iapply (wp_tile_landed c 2 4 (recvd D c) (Wt c) (fun _ _ => rfl)) $$ [Hw Hm2]
  · isplitl [Hw]; · iexact Hw
    iexact Hm2
  iintro ⟨Hw, Hm2⟩
  iapply (wp_tile_landed c 2 5 (recvd D c) (Wt c) (fun _ _ => rfl)) $$ [Hw Hm2]
  · isplitl [Hw]; · iexact Hw
    iexact Hm2
  iintro ⟨Hw, Hm2⟩
  iapply (wp_tile_landed c 2 6 (recvd D c) (Wt c) (fun _ _ => rfl)) $$ [Hw Hm2]
  · isplitl [Hw]; · iexact Hw
    iexact Hm2
  iintro ⟨Hw, Hm2⟩
  iapply (wp_tile_landed c 2 7 (recvd D c) (Wt c) (fun _ _ => rfl)) $$ [Hw Hm2]
  · isplitl [Hw]; · iexact Hw
    iexact Hm2
  iintro ⟨Hw, Hm2⟩
  iapply (wp_back D Wt K c _ (j := 2) (i := 2) .two (by decide) (dev8_eq c) (oQ c 3) _ g2 rfl rfl) $$ [Hm2 Hq2 HO Ht2t Ht2w]
  · isplitr; · iexact HI
    isplitl [Hm2]
    · iapply (Entails.of_eq (congrArg (fun f : CB F => slotPts rM c 2 f) (mix_all (recvd D c) (mm (recvd D c) (Wt c))))); iexact Hm2
    isplitl [Hq2]; · iexact Hq2
    isplitl [HO]; · iexact HO
    isplitl [Ht2t]; · iexact Ht2t
    isplitr; · iexact Hr2t
    isplitl [Ht2w]; · iexact Ht2w
    iexact Hs2w
  iintro ⟨Hc2t, HO⟩
  -- slot 3 arrives, is worked on, and is sent back
  simp only [k2_part17_eq_skeleton, k2_part18_eq_skeleton, k2_part19_eq_skeleton, k2_part20_eq_skeleton]
  unfold k2_part17_skel k2_part18_skel k2_part19_skel k2_part20_skel
  simp only [semSignalWord, semWaitWord, Prog.lift, Prog.bind_op, Prog.bind_ret, Prog.pure_eq_ret, Prog.bind_assoc, wp_deviceId]
  iapply (wp_take D Wt K c (v1 3) (v1_mem c .three) 2 (by decide) (oQ c 3) (above_oQ c 3) _ (credit_r 3)) $$ [Hc3v HO Ha3v]
  · isplitr; · iexact HI
    isplitl [Hc3v]; · iexact Hc3v
    isplitl [HO]; · iexact HO
    isplitr; · iexact Hlev
    iexact Ha3v
  iintro ⟨HO, Ha3v, Hpay⟩
  ihave Hm3 := (Entails.of_eq ((payload_v1 D Wt c 3 0).trans (congrArg (fun f : CB F => slotPts rM c 3 f) (mix_zero (recvd D c) (mm (recvd D c) (Wt c))).symm))) $$ Hpay
  iapply (wp_tile_landed c 3 0 (recvd D c) (Wt c) (fun _ _ => rfl)) $$ [Hw Hm3]
  · isplitl [Hw]; · iexact Hw
    iexact Hm3
  iintro ⟨Hw, Hm3⟩
  iapply (wp_tile_landed c 3 1 (recvd D c) (Wt c) (fun _ _ => rfl)) $$ [Hw Hm3]
  · isplitl [Hw]; · iexact Hw
    iexact Hm3
  iintro ⟨Hw, Hm3⟩
  iapply (wp_tile_landed c 3 2 (recvd D c) (Wt c) (fun _ _ => rfl)) $$ [Hw Hm3]
  · isplitl [Hw]; · iexact Hw
    iexact Hm3
  iintro ⟨Hw, Hm3⟩
  iapply (wp_tile_landed c 3 3 (recvd D c) (Wt c) (fun _ _ => rfl)) $$ [Hw Hm3]
  · isplitl [Hw]; · iexact Hw
    iexact Hm3
  iintro ⟨Hw, Hm3⟩
  iapply (wp_tile_landed c 3 4 (recvd D c) (Wt c) (fun _ _ => rfl)) $$ [Hw Hm3]
  · isplitl [Hw]; · iexact Hw
    iexact Hm3
  iintro ⟨Hw, Hm3⟩
  iapply (wp_tile_landed c 3 5 (recvd D c) (Wt c) (fun _ _ => rfl)) $$ [Hw Hm3]
  · isplitl [Hw]; · iexact Hw
    iexact Hm3
  iintro ⟨Hw, Hm3⟩
  iapply (wp_tile_landed c 3 6 (recvd D c) (Wt c) (fun _ _ => rfl)) $$ [Hw Hm3]
  · isplitl [Hw]; · iexact Hw
    iexact Hm3
  iintro ⟨Hw, Hm3⟩
  iapply (wp_tile_landed c 3 7 (recvd D c) (Wt c) (fun _ _ => rfl)) $$ [Hw Hm3]
  · isplitl [Hw]; · iexact Hw
    iexact Hm3
  iintro ⟨Hw, Hm3⟩
  rw [← zero_add (oQ c 3)]
  iapply (wp_back D Wt K c _ (j := 3) (i := 1) .three (by decide) (dev9_eq c) 0 _ g3 rfl rfl) $$ [Hm3 Hq3 HO Ht3t Ht3w]
  · isplitr; · iexact HI
    isplitl [Hm3]
    · iapply (Entails.of_eq (congrArg (fun f : CB F => slotPts rM c 3 f) (mix_all (recvd D c) (mm (recvd D c) (Wt c))))); iexact Hm3
    isplitl [Hq3]; · iexact Hq3
    isplitl [HO]; · iexact HO
    isplitl [Ht3t]; · iexact Ht3t
    isplitr; · iexact Hr3t
    isplitl [Ht3w]; · iexact Ht3w
    iexact Hs3w
  iintro ⟨Hc3t, HO⟩
  -- the nine last waits
  simp only [k2_part21_eq_skeleton, k2_part22_eq_skeleton, k2_part23_eq_skeleton]
  unfold k2_part21_skel k2_part22_skel k2_part23_skel
  simp only [semSignalWord, semWaitWord, Prog.lift, Prog.bind_op, Prog.bind_ret, Prog.pure_eq_ret, Prog.bind_assoc, wp_deviceId]
  iapply (wp_take D Wt K c (s1 1) (s1_mem c .one) 3 (by decide) 0 (Above.zero 3) _ (credit_d 1)) $$ [Hc1s HO Ha1s]
  · isplitr; · iexact HI
    isplitl [Hc1s]; · iexact Hc1s
    isplitl [HO]; · iexact HO
    isplitr; · iexact Hlev
    iexact Ha1s
  iintro ⟨HO, Ha1s, Hpay⟩
  ihave Hd1 := (Entails.of_eq (payload_s1 D Wt c 1 0)) $$ Hpay
  iapply (wp_take D Wt K c (s1 2) (s1_mem c .two) 3 (by decide) 0 (Above.zero 3) _ (credit_d 2)) $$ [Hc2s HO Ha2s]
  · isplitr; · iexact HI
    isplitl [Hc2s]; · iexact Hc2s
    isplitl [HO]; · iexact HO
    isplitr; · iexact Hlev
    iexact Ha2s
  iintro ⟨HO, Ha2s, Hpay⟩
  ihave Hd2 := (Entails.of_eq (payload_s1 D Wt c 2 0)) $$ Hpay
  iapply (wp_take D Wt K c (s1 3) (s1_mem c .three) 3 (by decide) 0 (Above.zero 3) _ (credit_d 3)) $$ [Hc3s HO Ha3s]
  · isplitr; · iexact HI
    isplitl [Hc3s]; · iexact Hc3s
    isplitl [HO]; · iexact HO
    isplitr; · iexact Hlev
    iexact Ha3s
  iintro ⟨HO, Ha3s, Hpay⟩
  ihave Hd3 := (Entails.of_eq (payload_s1 D Wt c 3 0)) $$ Hpay
  iapply (wp_take D Wt K c (s2 1) (s2_mem c .one) 3 (by decide) 0 (Above.zero 3) _ (credit_r 1)) $$ [Hc1t HO Ha1t]
  · isplitr; · iexact HI
    isplitl [Hc1t]; · iexact Hc1t
    isplitl [HO]; · iexact HO
    isplitr; · iexact Hlev
    iexact Ha1t
  iintro ⟨HO, Ha1t, Hpay⟩
  ihave Hm1 := (Entails.of_eq (payload_s2 D Wt c 1 0)) $$ Hpay
  iapply (wp_take D Wt K c (s2 2) (s2_mem c .two) 3 (by decide) 0 (Above.zero 3) _ (credit_r 2)) $$ [Hc2t HO Ha2t]
  · isplitr; · iexact HI
    isplitl [Hc2t]; · iexact Hc2t
    isplitl [HO]; · iexact HO
    isplitr; · iexact Hlev
    iexact Ha2t
  iintro ⟨HO, Ha2t, Hpay⟩
  ihave Hm2 := (Entails.of_eq (payload_s2 D Wt c 2 0)) $$ Hpay
  iapply (wp_take D Wt K c (s2 3) (s2_mem c .three) 3 (by decide) 0 (Above.zero 3) _ (credit_r 3)) $$ [Hc3t HO Ha3t]
  · isplitr; · iexact HI
    isplitl [Hc3t]; · iexact Hc3t
    isplitl [HO]; · iexact HO
    isplitr; · iexact Hlev
    iexact Ha3t
  iintro ⟨HO, Ha3t, Hpay⟩
  ihave Hm3 := (Entails.of_eq (payload_s2 D Wt c 3 0)) $$ Hpay
  iapply (wp_take D Wt K c (v2 1) (v2_mem c .one) 3 (by decide) 0 (Above.zero 3) _ (credit_y 1)) $$ [Hc1w HO Ha1w]
  · isplitr; · iexact HI
    isplitl [Hc1w]; · iexact Hc1w
    isplitl [HO]; · iexact HO
    isplitr; · iexact Hlev
    iexact Ha1w
  iintro ⟨HO, Ha1w, Hpay⟩
  ihave Hy1 := (Entails.of_eq (payload_v2 D Wt c 1 0)) $$ Hpay
  iapply (wp_take D Wt K c (v2 2) (v2_mem c .two) 3 (by decide) 0 (Above.zero 3) _ (credit_y 2)) $$ [Hc2w HO Ha2w]
  · isplitr; · iexact HI
    isplitl [Hc2w]; · iexact Hc2w
    isplitl [HO]; · iexact HO
    isplitr; · iexact Hlev
    iexact Ha2w
  iintro ⟨HO, Ha2w, Hpay⟩
  ihave Hy2 := (Entails.of_eq (payload_v2 D Wt c 2 0)) $$ Hpay
  iapply (wp_take D Wt K c (v2 3) (v2_mem c .three) 3 (by decide) 0 (Above.zero 3) _ (credit_y 3)) $$ [Hc3w HO Ha3w]
  · isplitr; · iexact HI
    isplitl [Hc3w]; · iexact Hc3w
    isplitl [HO]; · iexact HO
    isplitr; · iexact Hlev
    iexact Ha3w
  iintro ⟨HO, Ha3w, Hpay⟩
  ihave Hy3 := (Entails.of_eq (payload_v2 D Wt c 3 0)) $$ Hpay
  unfold pay1s pay2s pay2v
  -- every counter closes
  imod (close D Wt K (barCell c) (bar_mem c)) $$ [HaB] with HzB
  · isplitr; · iexact HI
    iexact HaB
  imod (close D Wt K (dCell c (s1 1)) (s1_mem c .one)) $$ [Ha1s] with Hz1s
  · isplitr; · iexact HI
    iexact Ha1s
  imod (close D Wt K (dCell c (v1 1)) (v1_mem c .one)) $$ [Ha1v] with Hz1v
  · isplitr; · iexact HI
    iexact Ha1v
  imod (close D Wt K (dCell c (s2 1)) (s2_mem c .one)) $$ [Ha1t] with Hz1t
  · isplitr; · iexact HI
    iexact Ha1t
  imod (close D Wt K (dCell c (v2 1)) (v2_mem c .one)) $$ [Ha1w] with Hz1w
  · isplitr; · iexact HI
    iexact Ha1w
  imod (close D Wt K (dCell c (s1 2)) (s1_mem c .two)) $$ [Ha2s] with Hz2s
  · isplitr; · iexact HI
    iexact Ha2s
  imod (close D Wt K (dCell c (v1 2)) (v1_mem c .two)) $$ [Ha2v] with Hz2v
  · isplitr; · iexact HI
    iexact Ha2v
  imod (close D Wt K (dCell c (s2 2)) (s2_mem c .two)) $$ [Ha2t] with Hz2t
  · isplitr; · iexact HI
    iexact Ha2t
  imod (close D Wt K (dCell c (v2 2)) (v2_mem c .two)) $$ [Ha2w] with Hz2w
  · isplitr; · iexact HI
    iexact Ha2w
  imod (close D Wt K (dCell c (s1 3)) (s1_mem c .three)) $$ [Ha3s] with Hz3s
  · isplitr; · iexact HI
    iexact Ha3s
  imod (close D Wt K (dCell c (v1 3)) (v1_mem c .three)) $$ [Ha3v] with Hz3v
  · isplitr; · iexact HI
    iexact Ha3v
  imod (close D Wt K (dCell c (s2 3)) (s2_mem c .three)) $$ [Ha3t] with Hz3t
  · isplitr; · iexact HI
    iexact Ha3t
  imod (close D Wt K (dCell c (v2 3)) (v2_mem c .three)) $$ [Ha3w] with Hz3w
  · isplitr; · iexact HI
    iexact Ha3w
  rw [wp_ret]; imodintro
  iapply Hk
  unfold closed bufsPost
  isplitl [HzB]; · iexact HzB
  isplitl [Hz1s Hz1v Hz1t Hz1w Hz2s Hz2v Hz2t Hz2w Hz3s Hz3v Hz3t Hz3w]
  · isplitl [Hz1s Hz1v Hz1t Hz1w]
    · isplitl [Hz1s]; · iexact Hz1s
      isplitl [Hz1v]; · iexact Hz1v
      isplitl [Hz1t] <;> iassumption
    isplitl [Hz2s Hz2v Hz2t Hz2w]
    · isplitl [Hz2s]; · iexact Hz2s
      isplitl [Hz2v]; · iexact Hz2v
      isplitl [Hz2t] <;> iassumption
    · isplitl [Hz3s]; · iexact Hz3s
      isplitl [Hz3v]; · iexact Hz3v
      isplitl [Hz3t] <;> iassumption
  isplitl [HO]; · iexists _; iexact HO
  isplitl [Hd0 Hd1 Hd2 Hd3]
  · iapply (Entails.of_eq (slots_d c (D c)).symm)
    isplitl [Hd0]; · iexact Hd0
    isplitl [Hd1]; · iexact Hd1
    isplitl [Hd2] <;> iassumption
  isplitl [Hx]; · iexact Hx
  isplitl [Hsw]; · iexact Hsw
  isplitl [Hw]; · iexact Hw
  isplitl [Hy0 Hy1 Hy2 Hy3]
  · iapply (Entails.of_eq (slots_y c (answer D Wt c)).symm)
    isplitl [Hy0]
    · iapply (Entails.of_eq ((congrArg (fun f : CB F => slotPts yM c 0 f) (mix_all fy (mm (D c) (Wt c)))).trans (slot_congr_y c 0 (own_answer D Wt c)))); iexact Hy0
    isplitl [Hy1]; · iexact Hy1
    isplitl [Hy2] <;> iassumption
  isplitl [Hsh]
  · iapply (Entails.of_eq (congrArg (fun f : S2048x1024.Idx → Elt F .f32 => ((Memref.whole cc2_stg5_0 : Memref sig .tc .vmem S2048x1024 .f32).view.loc (c : Thread nD τ) ↦{fullShare} f : sProp 𝕄))
      (shared_write fsh x sw)))
    iexact Hsh
  iapply (join_r c fr (mm (recvd D c) (Wt c)))
  isplitl [Hrz]; · iexact Hrz
  isplitl [Hm1]; · iexact Hm1
  isplitl [Hm2] <;> iassumption

end Body

end Cert.Proof.Moe

end
-- ==== Proof.Plain.lean ====
/-
The three calls that do not communicate: what each leaves in its result's staging buffers.
-/
module

public import proofs.«01_k».proof.Proof.Proto
public import proofs.«01_k».proof.Proof.Gen.KernelIdeal.Points
public import Idealize.ShloMosaic.Lib.VecWindow
public import Idealize.ShloMosaic.Lib.Pipeline.ValueKit

@[expose] public section

set_option maxRecDepth 16384

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

/-- A memref's buffer on a core, held whole at `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

theorem zero_two : (![0, 0] : Fin 2 → Nat) = fun _ => 0 := by decide
theorem three_zero : (![0, 0, 0] : Fin 3 → Nat) = fun _ => 0 := by decide

/-- The cast call at one grid point leaves in its result's buffer what its input's buffer reads. -/
theorem cast_run (c : Dev nD) (i : grid0.Coords) (M0 : Memref sig .tc .vmem S1x128x1024 .bf16) (h0 : M0.IsWhole)
    (M1 : Memref sig .tc .vmem S1x128x1024 .bf16) (h1 : M1.IsWhole)
    (f0 : Buf (Elt F) (M0.view.loc (c : Thread nD τ))) (f1 : Buf (Elt F) (M1.view.loc (c : Thread nD τ)))
    (Q : PUnit → sProp 𝕄) :
    iprop(pt c M0 f0 ∗ pt c M1 f1
        ∗ ((pt c M0 f0 ∗ ∃ g, ⌜M1.view.read (Elt F) g = k0_pay1 (M0.view.read (Elt F) f0)⌝ ∗ pt c M1 g) -∗ Q ⟨⟩))
      ⊢ wp frame (wpE (defs₀ (F := F)) 𝒱₀ c none) Set.univ (cc0__cast_body i M0 h0 M1 h1) Q := by
  iintro ⟨H0, H1, Hk⟩
  sl_exec!
  sl_step
  iapply Hk
  isplitl [H0]; · iexact H0
  iexists _
  isplitr; swap; · iexact H1
  ipureintro
  exact (View.read_writes_full _ _ _ _ _).trans (congrArg k0_pay1 (View.ld_unit_zero (S := S1x128x1024) three_zero _ _))

/-- The preparing call leaves the dispatched rows, the routing weights and the tokens themselves. -/
theorem prep_run (c : Dev nD)
    (M0 : Memref sig .tc .vmem S2048x1024 .bf16) (h0 : M0.IsWhole) (M1 : Memref sig .tc .vmem S1024x32 .bf16) (h1 : M1.IsWhole)
    (M2 : Memref sig .tc .vmem S2048x1 .i32) (h2 : M2.IsWhole) (M3 : Memref sig .tc .vmem S2048x1 .i32) (h3 : M3.IsWhole)
    (M4 : Memref sig .tc .vmem S4096x1024 .bf16) (h4 : M4.IsWhole) (M5 : Memref sig .tc .vmem S2048x1 .f32) (h5 : M5.IsWhole)
    (M6 : Memref sig .tc .vmem S2048x1024 .bf16) (h6 : M6.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ)))
    (Q : PUnit → sProp 𝕄) :
    iprop(pt c M0 f0 ∗ pt c M1 f1 ∗ pt c M2 f2 ∗ pt c M3 f3 ∗ pt c M4 f4 ∗ pt c M5 f5 ∗ pt c M6 f6
        ∗ ((pt c M0 f0 ∗ pt c M1 f1 ∗ pt c M2 f2 ∗ pt c M3 f3
            ∗ (∃ g, ⌜M4.view.read (Elt F) g = k1_pay2 (M0.view.read (Elt F) f0) (M3.view.read (Elt F) f3)⌝ ∗ pt c M4 g)
            ∗ (∃ g, ⌜M5.view.read (Elt F) g
                = k1_pay3 (M0.view.read (Elt F) f0) (M1.view.read (Elt F) f1) (M2.view.read (Elt F) f2)⌝ ∗ pt c M5 g)
            ∗ (∃ g, ⌜M6.view.read (Elt F) g = k1_pay1 (M0.view.read (Elt F) f0)⌝ ∗ pt c M6 g)) -∗ Q ⟨⟩))
      ⊢ wp frame (wpE (defs₀ (F := F)) 𝒱₀ c none) Set.univ
          (cc1__prep_body M0 h0 M1 h1 M2 h2 M3 h3 M4 h4 M5 h5 M6 h6) Q := by
  iintro ⟨H0, H1, H2, H3, H4, H5, H6, Hk⟩
  sl_exec!
  sl_step
  iapply Hk
  isplitl [H0]; · iexact H0
  isplitl [H1]; · iexact H1
  isplitl [H2]; · iexact H2
  isplitl [H3]; · iexact H3
  isplitl [H4]
  · iexists _
    isplitr; swap; · iexact H4
    ipureintro
    exact (View.read_writes_full _ _ _ _ _).trans (congrArg₂ k1_pay2 (View.ld_unit_zero (S := S2048x1024) zero_two _ _) (View.ld_unit_zero (S := S2048x1) zero_two _ _))
  isplitl [H5]
  · iexists _
    isplitr; swap; · iexact H5
    ipureintro
    exact (View.read_writes_full _ _ _ _ _).trans (congr (congrArg₂ k1_pay3 (View.ld_unit_zero (S := S2048x1024) zero_two _ _)
      (View.ld_unit_zero (S := S1024x32) zero_two _ _)) (View.ld_unit_zero (S := S2048x1) zero_two _ _))
  · iexists _
    isplitr; swap; · iexact H6
    ipureintro
    exact (View.read_writes_full _ _ _ _ _).trans (congrArg k1_pay1 (View.ld_unit_zero (S := S2048x1024) zero_two _ _))

/-- The combining call leaves the shared product plus the weighted answers. -/
theorem combine_run (c : Dev nD)
    (M0 : Memref sig .tc .vmem S2048x1 .i32) (h0 : M0.IsWhole) (M1 : Memref sig .tc .vmem S4096x1024 .bf16) (h1 : M1.IsWhole)
    (M2 : Memref sig .tc .vmem S2048x1024 .f32) (h2 : M2.IsWhole) (M3 : Memref sig .tc .vmem S2048x1 .f32) (h3 : M3.IsWhole)
    (M4 : Memref sig .tc .vmem S2048x1024 .f32) (h4 : M4.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (f4 : Buf (Elt F) (M4.view.loc (c : Thread nD τ)))
    (Q : PUnit → sProp 𝕄) :
    iprop(pt c M0 f0 ∗ pt c M1 f1 ∗ pt c M2 f2 ∗ pt c M3 f3 ∗ pt c M4 f4
        ∗ ((pt c M0 f0 ∗ pt c M1 f1 ∗ pt c M2 f2 ∗ pt c M3 f3
            ∗ (∃ g, ⌜M4.view.read (Elt F) g = k3_pay1 (M0.view.read (Elt F) f0) (M1.view.read (Elt F) f1)
                (M2.view.read (Elt F) f2) (M3.view.read (Elt F) f3)⌝ ∗ pt c M4 g)) -∗ Q ⟨⟩))
      ⊢ wp frame (wpE (defs₀ (F := F)) 𝒱₀ c none) Set.univ (cc3__combine_body M0 h0 M1 h1 M2 h2 M3 h3 M4 h4) Q := by
  iintro ⟨H0, H1, H2, H3, H4, Hk⟩
  sl_exec!
  sl_step
  iapply Hk
  isplitl [H0]; · iexact H0
  isplitl [H1]; · iexact H1
  isplitl [H2]; · iexact H2
  isplitl [H3]; · iexact H3
  iexists _
  isplitr; swap; · iexact H4
  ipureintro
  exact (View.read_writes_full _ _ _ _ _).trans (congr (congr (congrArg₂ k3_pay1 (View.ld_unit_zero (S := S2048x1) zero_two _ _)
    (View.ld_unit_zero (S := S4096x1024) zero_two _ _)) (View.ld_unit_zero (S := S2048x1024) zero_two _ _)) (View.ld_unit_zero (S := S2048x1) zero_two _ _))

end Cert.Proof.Moe

end
-- ==== Proof.Regs.lean ====
/-
The three calls that do not communicate, as regions of the program: their proof data at any valuation they are entered from.
-/
module

public import proofs.«01_k».proof.Proof.Plain

@[expose] public section

set_option maxRecDepth 16384

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

theorem owns_pt (c : Dev nD) {sp : Space} {S : Shape} {e : EltTy} (M : Memref sig .tc sp S e) (h : M.IsWhole)
    (X : S.Idx → Elt F e) :
    (owns (c : Thread nD τ) M fullShare X : sProp 𝕄) = iprop(∃ f, ⌜M.view.read (Elt F) f = X⌝ ∗ pt c M f) := by
  unfold owns; rw [h.set_eq_univ]

variable (V : Dev nD → Valuation τ sig (Elt F))

/-! ## The cast call -/

/-- A window's block at a grid point, read off its array at the entry valuation. -/
def blk0 (c : Dev nD) (w : Fin 2) (t : Fin cfg0.N) : ((cfg0.win w).xblock (cfg0.grid.coords t)).Idx → Elt F (cfg0.win w).elt :=
  ((cfg0.win w).blk t).view.read (Elt F) (V c (Pipeline.arrRef spec0 w))

/-- The cast call's proof data: after a grid point the result's buffer holds what the input's does. -/
def dat0 (c : Dev nD) : Dat τ (Elt F) Unit ℕ UU ℕ cfg0 c where
  A w := V c (Pipeline.arrRef spec0 w)
  after w t := match w with
    | ⟨0, _⟩ => blk0 V c 0 t
    | ⟨1, _⟩ => k0_pay1 (blk0 V c 0 t)
  Φ _ := Pipeline.scopedRest spec0 c
  q _ := fullShare
  owed _ := O₀ c

theorem before0 (c : Dev nD) (t : Fin cfg0.N) (d) : (dat0 V c).before 0 t d = blk0 V c 0 t :=
  ((dat0 V c).before_in_eq_fetched 0 rfl (fun _ => rfl) (fun _ _ _ => rfl) (fun t => rfl) t d).trans rfl

theorem body0 (c : Dev nD) : BodyObligation (dat0 V c) (defs₀ (F := F)) 𝒱₀ () Set.univ := fun t => by
  rw [bigSep_W0, bigSep_W0]
  rw [show (dat0 V c).Φ t.castSucc = Pipeline.scopedRest spec0 c from rfl,
    show (dat0 V c).Φ t.succ = Pipeline.scopedRest spec0 c from rfl,
    show (dat0 V c).owesAt () t.succ = (dat0 V c).owesAt () t.castSucc from rfl]
  iintro ⟨HΦ, Howes, ⟨%d0, H0⟩, ⟨%d1, H1⟩⟩
  rw [before0]
  ihave H0' := (Entails.of_eq (owns_pt c (win0_0.stage (cfg0.slots t 0)) (hstage0_0 ((cfg0.slots t 0).cast nbuf0_0)) (blk0 V c 0 t))) $$ H0
  ihave H1' := (Entails.of_eq (owns_pt c (win0_1.stage (cfg0.slots t 1)) (hstage0_1 ((cfg0.slots t 1).cast nbuf0_1)) ((dat0 V c).before 1 t d1))) $$ H1
  icases H0' with ⟨%f0, %hf0, H0⟩
  icases H1' with ⟨%f1, -, H1⟩
  iapply (cast_run c (grid0.coords t) (win0_0.stage (cfg0.slots t 0)) (hstage0_0 ((cfg0.slots t 0).cast nbuf0_0))
    (win0_1.stage (cfg0.slots t 1)) (hstage0_1 ((cfg0.slots t 1).cast nbuf0_1)) f0 f1 _)
  isplitl [H0]; · iexact H0
  isplitl [H1]; · iexact H1
  iintro ⟨H0, ⟨%g, %hg, H1⟩⟩
  isplitl [HΦ]; · iexact HΦ
  isplitl [Howes]; · iexact Howes
  isplitl [H0]
  · iapply (Entails.of_eq (owns_pt c (win0_0.stage (cfg0.slots t 0)) (hstage0_0 ((cfg0.slots t 0).cast nbuf0_0)) (blk0 V c 0 t)).symm)
    iexists f0; isplitr; swap; (· iexact H0); ipureintro; exact hf0
  · iapply (Entails.of_eq (owns_pt c (win0_1.stage (cfg0.slots t 1)) (hstage0_1 ((cfg0.slots t 1).cast nbuf0_1)) (k0_pay1 (blk0 V c 0 t))).symm)
    iexists g; isplitr; swap; (· iexact H1); ipureintro; exact hg.trans (congrArg k0_pay1 hf0)

/-- The cast call leaves in its result's array what its input's array holds. -/
theorem arr0_1 (c : Dev nD) : (dat0 V c).arrAt 1 cfg0.N = V c main_arg3 := by
  refine (dat0 V c).arrAt_eq_of_covers 1 _ (by decide +kernel) fun t hf y => ?_
  blk_simp
  exact congrFun (Idealize.ShloMosaic.shapeCast_self (blk0 V c 0 t) shapeCasts_S1x128x1024_S1x128x1024) y

/-! ## The preparing call -/

/-- The preparing call's proof data: what its three results' buffers hold after it. -/
def dat1 (c : Dev nD) : Dat τ (Elt F) Unit ℕ UU ℕ cfg1 c where
  A w := V c (Pipeline.arrRef spec1 w)
  after w _ := match w with
    | ⟨0, _⟩ => V c main_arg0
    | ⟨1, _⟩ => V c main_arg1
    | ⟨2, _⟩ => V c main_arg2
    | ⟨3, _⟩ => V c main_v33
    | ⟨4, _⟩ => k1_pay2 (V c main_arg0) (V c main_v33)
    | ⟨5, _⟩ => k1_pay3 (V c main_arg0) (V c main_arg1) (V c main_arg2)
    | ⟨6, _⟩ => k1_pay1 (V c main_arg0)
  Φ _ := Pipeline.scopedRest spec1 c
  q _ := fullShare
  owed _ := O₀ c

theorem before1_0 (c : Dev nD) (d) : (dat1 V c).before 0 t1_0 d = V c main_arg0 := by
  unfold Dat.before; rw [if_pos (fetch1_0 t1_0)]
  funext i
  refine congrArg (V c main_arg0) (funext fun a => Fin.ext ?_)
  exact Pipeline.Window.rect_emb_val_of_index_zero win1_0 t1_0 a rfl i

theorem before1_1 (c : Dev nD) (d) : (dat1 V c).before 1 t1_0 d = V c main_arg1 := by
  unfold Dat.before; rw [if_pos (fetch1_1 t1_0)]
  funext i
  refine congrArg (V c main_arg1) (funext fun a => Fin.ext ?_)
  exact Pipeline.Window.rect_emb_val_of_index_zero win1_1 t1_0 a rfl i

theorem before1_2 (c : Dev nD) (d) : (dat1 V c).before 2 t1_0 d = V c main_arg2 := by
  unfold Dat.before; rw [if_pos (fetch1_2 t1_0)]
  funext i
  refine congrArg (V c main_arg2) (funext fun a => Fin.ext ?_)
  exact Pipeline.Window.rect_emb_val_of_index_zero win1_2 t1_0 a rfl i

theorem before1_3 (c : Dev nD) (d) : (dat1 V c).before 3 t1_0 d = V c main_v33 := by
  unfold Dat.before; rw [if_pos (fetch1_3 t1_0)]
  funext i
  refine congrArg (V c main_v33) (funext fun a => Fin.ext ?_)
  exact Pipeline.Window.rect_emb_val_of_index_zero win1_3 t1_0 a rfl i

theorem body1 (c : Dev nD) : BodyObligation (dat1 V c) (defs₀ (F := F)) 𝒱₀ () Set.univ := fun t => by
  obtain rfl := fin_N1 t
  rw [bigSep_W1, bigSep_W1]
  simp only [owns_whole_eq]
  rw [show (dat1 V c).Φ t1_0.castSucc = Pipeline.scopedRest spec1 c from rfl,
    show (dat1 V c).Φ t1_0.succ = Pipeline.scopedRest spec1 c from rfl,
    show (dat1 V c).owesAt () t1_0.succ = (dat1 V c).owesAt () t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩, ⟨%d6, %f6, -, H6⟩⟩
  rw [before1_0] at hf0; subst hf0
  rw [before1_1] at hf1; subst hf1
  rw [before1_2] at hf2; subst hf2
  rw [before1_3] at hf3; subst hf3
  iapply (prep_run c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0)
    (V c main_arg0) (V c main_arg1) (V c main_arg2) (V c main_v33) f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, ⟨%g4, %hg4, H4⟩, ⟨%g5, %hg5, H5⟩, ⟨%g6, %hg6, H6⟩⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact hg4
  isplitl [H5]; · iexists _; isplitr; swap; (· iexact H5); ipureintro; exact hg5
  · iexists _; isplitr; swap; (· iexact H6); ipureintro; exact hg6

theorem arr1_4 (c : Dev nD) : (dat1 V c).arrAt 4 cfg1.N = k1_pay2 (V c main_arg0) (V c main_v33) :=
  (dat1 V c).arrAt_eq_of_after_last 4 t1_0 (by decide +kernel) _ fun j => rfl

theorem arr1_5 (c : Dev nD) : (dat1 V c).arrAt 5 cfg1.N = k1_pay3 (V c main_arg0) (V c main_arg1) (V c main_arg2) :=
  (dat1 V c).arrAt_eq_of_after_last 5 t1_0 (by decide +kernel) _ fun j => rfl

theorem arr1_6 (c : Dev nD) : (dat1 V c).arrAt 6 cfg1.N = k1_pay1 (V c main_arg0) :=
  (dat1 V c).arrAt_eq_of_after_last 6 t1_0 (by decide +kernel) _ fun j => rfl

/-! ## The combining call -/

/-- The combining call's proof data: what its result's buffer holds after it. -/
def dat3 (c : Dev nD) : Dat τ (Elt F) Unit ℕ UU ℕ cfg3 c where
  A w := V c (Pipeline.arrRef spec3 w)
  after w _ := match w with
    | ⟨0, _⟩ => V c main_v33
    | ⟨1, _⟩ => V c main_v38
    | ⟨2, _⟩ => V c main_v37_1
    | ⟨3, _⟩ => V c main_v35_1
    | ⟨4, _⟩ => k3_pay1 (V c main_v33) (V c main_v38) (V c main_v37_1) (V c main_v35_1)
  Φ _ := Pipeline.scopedRest spec3 c
  q _ := fullShare
  owed _ := 0

theorem before3_0 (c : Dev nD) (d) : (dat3 V c).before 0 t3_0 d = V c main_v33 := by
  unfold Dat.before; rw [if_pos (fetch3_0 t3_0)]
  funext i
  refine congrArg (V c main_v33) (funext fun a => Fin.ext ?_)
  exact Pipeline.Window.rect_emb_val_of_index_zero win3_0 t3_0 a rfl i

theorem before3_1 (c : Dev nD) (d) : (dat3 V c).before 1 t3_0 d = V c main_v38 := by
  unfold Dat.before; rw [if_pos (fetch3_1 t3_0)]
  funext i
  refine congrArg (V c main_v38) (funext fun a => Fin.ext ?_)
  exact Pipeline.Window.rect_emb_val_of_index_zero win3_1 t3_0 a rfl i

theorem before3_2 (c : Dev nD) (d) : (dat3 V c).before 2 t3_0 d = V c main_v37_1 := by
  unfold Dat.before; rw [if_pos (fetch3_2 t3_0)]
  funext i
  refine congrArg (V c main_v37_1) (funext fun a => Fin.ext ?_)
  exact Pipeline.Window.rect_emb_val_of_index_zero win3_2 t3_0 a rfl i

theorem before3_3 (c : Dev nD) (d) : (dat3 V c).before 3 t3_0 d = V c main_v35_1 := by
  unfold Dat.before; rw [if_pos (fetch3_3 t3_0)]
  funext i
  refine congrArg (V c main_v35_1) (funext fun a => Fin.ext ?_)
  exact Pipeline.Window.rect_emb_val_of_index_zero win3_3 t3_0 a rfl i

theorem body3 (c : Dev nD) : BodyObligation (dat3 V c) (defs₀ (F := F)) 𝒱₀ () Set.univ := fun t => by
  obtain rfl := fin_N3 t
  rw [bigSep_W3, bigSep_W3]
  simp only [owns_whole_eq]
  rw [show (dat3 V c).Φ t3_0.castSucc = Pipeline.scopedRest spec3 c from rfl,
    show (dat3 V c).Φ t3_0.succ = Pipeline.scopedRest spec3 c from rfl,
    show (dat3 V c).owesAt () t3_0.succ = (dat3 V c).owesAt () t3_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before3_0] at hf0; subst hf0
  rw [before3_1] at hf1; subst hf1
  rw [before3_2] at hf2; subst hf2
  rw [before3_3] at hf3; subst hf3
  iapply (combine_run c (stage3_0 0) (hstage3_0 0) (stage3_1 0) (hstage3_1 0) (stage3_2 0) (hstage3_2 0) (stage3_3 0) (hstage3_3 0) (stage3_4 0) (hstage3_4 0)
    (V c main_v33) (V c main_v38) (V c main_v37_1) (V c main_v35_1) f4 _)
  isplitl [H0]; · iexact H0
  isplitl [H1]; · iexact H1
  isplitl [H2]; · iexact H2
  isplitl [H3]; · iexact H3
  isplitl [H4]; · iexact H4
  iintro ⟨H0, H1, H2, H3, ⟨%g4, %hg4, H4⟩⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  · iexists _; isplitr; swap; (· iexact H4); ipureintro; exact hg4

theorem arr3_4 (c : Dev nD) : (dat3 V c).arrAt 4 cfg3.N = k3_pay1 (V c main_v33) (V c main_v38) (V c main_v37_1) (V c main_v35_1) :=
  (dat3 V c).arrAt_eq_of_after_last 4 t3_0 (by decide +kernel) _ fun j => rfl

end Cert.Proof.Moe

end
-- ==== Proof.Talk.lean ====
/-
The exchange as a region of the program: its proof data at any valuation it is entered from, and how its counters are opened and closed.
-/
module

public import proofs.«01_k».proof.Proof.MoeBody
public import proofs.«01_k».proof.Proof.Regs

@[expose] public section

set_option maxRecDepth 16384

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The exchange's own counters -/

/-- The exchange's own sixteen counters: four for each slot, the slot that stays included. -/
abbrev ownS : Fin 4 × Fin 4 → SemLoc sig
  | (j, 0) => .dma (s1 j)
  | (j, 1) => .dma (v1 j)
  | (j, 2) => .dma (s2 j)
  | (j, 3) => .dma (v2 j)

theorem own_facts : Pipeline.OwnSemFacts spec2 ownS := by decide

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem own_zero (c : Dev nD) : (Pipeline.ownSems0 ownS c : sProp 𝕄)
    = iprop(closed c 0 ∗ closed c 1 ∗ closed c 2 ∗ closed c 3) := by
  unfold Pipeline.ownSems0
  rw [bigSep_univ_prod]
  refine (bigSep_congr (Ψ := closed c) fun j _ => ?_).trans (four _)
  rw [four]; rfl

/-- A slot's four counters not yet open. -/
def unopened (c : Dev nD) (j : Fin 4) : sProp 𝕄 :=
  iprop(openTok ER (dCell c (s1 j)) ∗ openTok ER (dCell c (v1 j)) ∗ openTok ER (dCell c (s2 j)) ∗ openTok ER (dCell c (v2 j)))

section Open

variable (D : Dev nD → CB F) (Wt : Dev nD → S8x1024x1024.Idx → Elt F .bf16) (K : GSem nD τ sig → ℕ)

/-- A counter at zero, opened. -/
theorem open_cell {g : GSem nD τ sig} (hg : g ∈ (barCells ∪ scCells : Finset (GSem nD τ sig))) :
    iprop(invs D Wt K ∗ openTok ER g ∗ semVal g 0) ⊢ iprop(|={Set.univ}=> (atPos ER g 0 ∅ 0 ∗ reached ER g 0) : sProp 𝕄) := by
  iintro ⟨#HI, Ho, Hv⟩
  ihave #Hg := (inv_at D Wt K hg) $$ HI
  iapply (Rounds.cell_open ER (sched D Wt) (g := g) (Set.mem_univ (K g)))
  isplitr; · iexact Hg
  isplitl [Ho] <;> iassumption

/-- The four counters of a slot that travels, opened. -/
theorem open_slot (c : Dev nD) {j : Fin 4} (h : Far j) :
    iprop(invs D Wt K ∗ unopened c j ∗ closed c j) ⊢ iprop(|={Set.univ}=> (atStart c j ∗ began c j) : sProp 𝕄) := by
  unfold unopened closed atStart began
  iintro ⟨#HI, ⟨Ho1, Ho2, Ho3, Ho4⟩, ⟨Hv1, Hv2, Hv3, Hv4⟩⟩
  imod (open_cell D Wt K (s1_mem c h)) $$ [Ho1 Hv1] with ⟨Ha1, Hr1⟩
  · isplitr; · iexact HI
    isplitl [Ho1] <;> iassumption
  imod (open_cell D Wt K (v1_mem c h)) $$ [Ho2 Hv2] with ⟨Ha2, Hr2⟩
  · isplitr; · iexact HI
    isplitl [Ho2] <;> iassumption
  imod (open_cell D Wt K (s2_mem c h)) $$ [Ho3 Hv3] with ⟨Ha3, Hr3⟩
  · isplitr; · iexact HI
    isplitl [Ho3] <;> iassumption
  imod (open_cell D Wt K (v2_mem c h)) $$ [Ho4 Hv4] with ⟨Ha4, Hr4⟩
  · isplitr; · iexact HI
    isplitl [Ho4] <;> iassumption
  imodintro
  isplitl [Ha1 Ha2 Ha3 Ha4]
  · isplitl [Ha1]; · iexact Ha1
    isplitl [Ha2]; · iexact Ha2
    isplitl [Ha3] <;> iassumption
  · isplitl [Hr1]; · iexact Hr1
    isplitl [Hr2]; · iexact Hr2
    isplitl [Hr3] <;> iassumption

/-- What the launch keeps for a device until the exchange. -/
def kept (c : Dev nD) : sProp 𝕄 :=
  iprop(∃ K : GSem nD τ sig → ℕ, invs D Wt K ∗ atPos ER (barCell c) 0 ∅ 0 ∗ each (unopened c) ∗ each (fun j => reached ER (barCell (peer c j)) 0)
    ∗ each (rights c) ∗ cred (tallyAt (barCell c) () 3) ∗ each (arrivals c))

/-- What a device holds as it enters the exchange. -/
def ready (c : Dev nD) : sProp 𝕄 := iprop((∃ K : GSem nD τ sig → ℕ, ghost D Wt K c) ∗ closed c 0)

theorem open_all (c : Dev nD) :
    iprop(kept D Wt c ∗ Pipeline.ownSems0 ownS c ∗ levAts L lv) ⊢ (|={Set.univ}=> ready D Wt c : sProp 𝕄) := by
  rw [own_zero]
  unfold kept ready ghost each
  iintro ⟨⟨%K, #HI, HaB, ⟨Ho1, Ho2, Ho3⟩, HrB, Hri, HcB, Har⟩, ⟨Hz, Hv1, Hv2, Hv3⟩, Hlev⟩
  imod (open_slot D Wt K c .one) $$ [Ho1 Hv1] with ⟨Ha1, Hr1⟩
  · isplitr; · iexact HI
    isplitl [Ho1] <;> iassumption
  imod (open_slot D Wt K c .two) $$ [Ho2 Hv2] with ⟨Ha2, Hr2⟩
  · isplitr; · iexact HI
    isplitl [Ho2] <;> iassumption
  imod (open_slot D Wt K c .three) $$ [Ho3 Hv3] with ⟨Ha3, Hr3⟩
  · isplitr; · iexact HI
    isplitl [Ho3] <;> iassumption
  imodintro
  isplitr [Hz]; swap; · iexact Hz
  iexists K
  isplitr; · iexact HI
  isplitl [HaB]; · iexact HaB
  isplitl [Ha1 Ha2 Ha3]
  · isplitl [Ha1]; · iexact Ha1
    isplitl [Ha2] <;> iassumption
  isplitl [Hr1 Hr2 Hr3]
  · isplitl [Hr1]; · iexact Hr1
    isplitl [Hr2] <;> iassumption
  isplitl [HrB]; · iexact HrB
  isplitl [Hri]; · iexact Hri
  isplitl [HcB]; · iexact HcB
  isplitl [Har] <;> iassumption

end Open

/-- What a device holds as it leaves the exchange: its counters at zero. -/
def done (c : Dev nD) : sProp 𝕄 := iprop(semVal (barCell c) 0 ∗ each (closed c) ∗ closed c 0)

/-! ## The proof data -/

section Dat2

variable (V : Dev nD → Valuation τ sig (Elt F))

/-- The rows that a device enters with, and its experts' weights. -/
abbrev rowsOf (c : Dev nD) : CB F := V c main_v36
abbrev wgtsOf (c : Dev nD) : S8x1024x1024.Idx → Elt F .bf16 := V c main_v34

/-- The exchange's proof data: what its two results' buffers hold after it, what it is entered with and what it is left with. -/
def dat2 (c : Dev nD) : Dat τ (Elt F) Unit ℕ UU ℕ cfg2 c where
  A w := V c (Pipeline.arrRef spec2 w)
  after w _ := match w with
    | ⟨0, _⟩ => V c main_v36
    | ⟨1, _⟩ => V c main_v35_2
    | ⟨2, _⟩ => V c main_arg4
    | ⟨3, _⟩ => V c main_v34
    | ⟨4, _⟩ => answer (rowsOf V) (wgtsOf V) c
    | ⟨5, _⟩ => k2_pay1 (V c main_v35_2) (V c main_arg4)
  Φ t := if t.val = 0 then iprop(ready (rowsOf V) (wgtsOf V) c ∗ Pipeline.scopedRest spec2 c ∗ ∃ r, prngReg c r)
    else iprop(done c ∗ Pipeline.scopedRest spec2 c ∗ ∃ r, prngReg c r)
  q _ := fullShare
  owed t := if t.val = 0 then O₀ c else 0

theorem owed2_zero (c : Dev nD) : (dat2 V c).owed 0 = O₀ c := by
  show (if ((0 : Fin (cfg2.N + 1)).val = 0) then O₀ c else 0) = O₀ c
  exact if_pos rfl
theorem owed2_last (c : Dev nD) : (dat2 V c).owed (Fin.last _) = 0 := by
  show (if (Fin.last cfg2.N).val = 0 then O₀ c else 0) = 0
  rw [Fin.val_last, if_neg (by rw [show cfg2.N = 1 from N_2]; decide)]
theorem phi2_zero (c : Dev nD) : (dat2 V c).Φ 0 = iprop(ready (rowsOf V) (wgtsOf V) c ∗ Pipeline.scopedRest spec2 c ∗ ∃ r, prngReg c r) := by
  show (if ((0 : Fin (cfg2.N + 1)).val = 0) then iprop(ready (rowsOf V) (wgtsOf V) c ∗ Pipeline.scopedRest spec2 c ∗ ∃ r, prngReg c r)
    else iprop(done c ∗ Pipeline.scopedRest spec2 c ∗ ∃ r, prngReg c r)) = _
  exact if_pos rfl
theorem phi2_last (c : Dev nD) : (dat2 V c).Φ (Fin.last _) = iprop(done c ∗ Pipeline.scopedRest spec2 c ∗ ∃ r, prngReg c r) := by
  show (if (Fin.last cfg2.N).val = 0 then iprop(ready (rowsOf V) (wgtsOf V) c ∗ Pipeline.scopedRest spec2 c ∗ ∃ r, prngReg c r)
    else iprop(done c ∗ Pipeline.scopedRest spec2 c ∗ ∃ r, prngReg c r)) = _
  rw [Fin.val_last, if_neg (by rw [show cfg2.N = 1 from N_2]; decide)]

theorem before2_0 (c : Dev nD) (d) : (dat2 V c).before 0 t2_0 d = V c main_v36 := by
  unfold Dat.before; rw [if_pos (fetch2_0 t2_0)]
  funext i
  refine congrArg (V c main_v36) (funext fun a => Fin.ext ?_)
  exact Pipeline.Window.rect_emb_val_of_index_zero win2_0 t2_0 a rfl i

theorem before2_1 (c : Dev nD) (d) : (dat2 V c).before 1 t2_0 d = V c main_v35_2 := by
  unfold Dat.before; rw [if_pos (fetch2_1 t2_0)]
  funext i
  refine congrArg (V c main_v35_2) (funext fun a => Fin.ext ?_)
  exact Pipeline.Window.rect_emb_val_of_index_zero win2_1 t2_0 a rfl i

theorem before2_2 (c : Dev nD) (d) : (dat2 V c).before 2 t2_0 d = V c main_arg4 := by
  unfold Dat.before; rw [if_pos (fetch2_2 t2_0)]
  funext i
  refine congrArg (V c main_arg4) (funext fun a => Fin.ext ?_)
  exact Pipeline.Window.rect_emb_val_of_index_zero win2_2 t2_0 a rfl i

theorem before2_3 (c : Dev nD) (d) : (dat2 V c).before 3 t2_0 d = V c main_v34 := by
  unfold Dat.before; rw [if_pos (fetch2_3 t2_0)]
  funext i
  refine congrArg (V c main_v34) (funext fun a => Fin.ext ?_)
  exact Pipeline.Window.rect_emb_val_of_index_zero win2_3 t2_0 a rfl i

theorem owes2_first (c : Dev nD) :
    ((dat2 V c).owesAt () t2_0.castSucc : sProp 𝕄) ⊢ iprop(∃ W, owes (c : Thread nD τ) (O₀ c) W) := by
  unfold Dat.owesAt Pipeline.owesWithin
  rw [show (dat2 V c).owed t2_0.castSucc = O₀ c from rfl]
  iintro ⟨%W, -, HO⟩; iexists W; iexact HO
theorem owes2_last (c : Dev nD) (W : Waits sig Unit) :
    (owes (c : Thread nD τ) 0 W : sProp 𝕄) ⊢ (dat2 V c).owesAt () t2_0.succ := by
  unfold Dat.owesAt Pipeline.owesWithin Dat.bound
  rw [show (dat2 V c).owed t2_0.succ = 0 from rfl, show (dat2 V c).recorded t2_0.succ = Set.univ from rfl]
  iintro HO; iexists W; isplitr; · ipureintro; exact fun _ _ => Or.inl trivial
  iexact HO

/-- The exchange's body obligation: the exchange itself. -/
theorem body2 (c : Dev nD) : BodyObligation (dat2 V c) (defs₀ (F := F)) 𝒱₀ () Set.univ := fun t => by
  obtain rfl := fin_N2 t
  rw [bigSep_W2, bigSep_W2]
  simp only [owns_whole_eq]
  rw [show (dat2 V c).Φ t2_0.castSucc = iprop(ready (rowsOf V) (wgtsOf V) c ∗ Pipeline.scopedRest spec2 c ∗ ∃ r, prngReg c r) from rfl,
    show (dat2 V c).Φ t2_0.succ = iprop(done c ∗ Pipeline.scopedRest spec2 c ∗ ∃ r, prngReg c r) from rfl, scopedRest2_eq]
  unfold ready done
  iintro ⟨⟨⟨⟨%K, Hg⟩, Hz⟩, ⟨Hb0, Hb1, Hb2, Hb3, Hb4, Hb5, Hb6, Hb7, Hb8, Hb9, Hb10, ⟨%fr, Hr⟩, Hbs⟩, Hp⟩, Howes,
    ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  rw [before2_0] at hf0; subst hf0
  rw [before2_1] at hf1; subst hf1
  rw [before2_2] at hf2; subst hf2
  rw [before2_3] at hf3; subst hf3
  ihave Ho := (owes2_first V c) $$ Howes
  icases Ho with ⟨%W, HO⟩
  iapply (exchange (rowsOf V) (wgtsOf V) K c (V c main_v35_2) (V c main_arg4) W _)
  isplitl [Hg HO H0 H1 H2 H3 H4 H5 Hr]
  · isplitl [Hg]; · iexact Hg
    isplitl [HO]; · iexact HO
    unfold bufsPre
    isplitl [H0]; · iexact H0
    isplitl [H1]; · iexact H1
    isplitl [H2]; · iexact H2
    isplitl [H3]; · iexact H3
    isplitl [H4]; · iexists f4; iexact H4
    isplitl [H5]; · iexists f5; iexact H5
    iexists fr; iexact Hr
  unfold bufsPost
  iintro ⟨HbB, Hc, ⟨%W', HO⟩, H0, H1, H2, H3, H4, H5, ⟨%fr', Hr⟩⟩
  isplitl [HbB Hc Hz Hb0 Hb1 Hb2 Hb3 Hb4 Hb5 Hb6 Hb7 Hb8 Hb9 Hb10 Hr Hbs Hp]
  · isplitl [HbB Hc Hz]
    · isplitl [HbB]; · iexact HbB
      isplitl [Hc] <;> iassumption
    isplitr [Hp]; swap; · iexact Hp
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hr]; · iexists fr'; iexact Hr
    iexact Hbs
  isplitl [HO]; · iapply (owes2_last V c W'); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  · iexists _; isplitr; swap; (· iexact H5); ipureintro; rfl

theorem arr2_4 (c : Dev nD) : (dat2 V c).arrAt 4 cfg2.N = answer (rowsOf V) (wgtsOf V) c :=
  (dat2 V c).arrAt_eq_of_after_last 4 t2_0 (by decide +kernel) _ fun j => rfl

theorem arr2_5 (c : Dev nD) : (dat2 V c).arrAt 5 cfg2.N = k2_pay1 (V c main_v35_2) (V c main_arg4) :=
  (dat2 V c).arrAt_eq_of_after_last 5 t2_0 (by decide +kernel) _ fun j => rfl

end Dat2

end Cert.Proof.Moe

end
-- ==== Proof.Deal.lean ====
/-
The launch's ghost state: every counter's invariant allocated, every duty's token dealt to the device that pays it, and every
device's credit for what the others owe it.
-/
module

public import proofs.«01_k».proof.Proof.Talk

@[expose] public section

set_option maxRecDepth 16384

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The tokens -/

/-- A family of pairs over the devices is a pair of families. -/
theorem pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

/-- The duties of a slot that travels, on the device that is paid: where it is, and which duty of that counter. -/
def duty : Fin 3 × Fin 5 → SemLoc sig × Fin 4
  | (a, 0) => (.reg barS, a.succ)
  | (a, 1) => (.dma (s1 a.succ), 0)
  | (a, 2) => (.dma (v1 a.succ), 0)
  | (a, 3) => (.dma (s2 a.succ), 0)
  | (a, 4) => (.dma (v2 a.succ), 0)

theorem duty_inj : Function.Injective duty := by decide

def dutyEmb : Dev nD × (Fin 3 × Fin 5) ↪ GSem nD τ sig × ℕ × Fin 4 :=
  ⟨fun x => (((x.1 : Thread nD τ), (duty x.2).1), 0, (duty x.2).2), fun x y h =>
    Prod.ext (congrArg (fun t : GSem nD τ sig × ℕ × Fin 4 => t.1.1.1) h)
      (duty_inj (Prod.ext (congrArg (fun t : GSem nD τ sig × ℕ × Fin 4 => t.1.2) h) (congrArg (fun t : GSem nD τ sig × ℕ × Fin 4 => t.2.2) h)))⟩

/-- Every duty of every device. -/
def allToks : Finset (GSem nD τ sig × ℕ × Fin 4) := Finset.univ.map dutyEmb

/-- A slot's tokens paid by the device itself, and those paid by another. -/
def selfToks (c : Dev nD) (j : Fin 4) : sProp 𝕄 := iprop(dutyTok ER (dCell c (s1 j)) 0 0 ∗ dutyTok ER (dCell c (s2 j)) 0 0)
def otherToks (c : Dev nD) (j : Fin 4) : sProp 𝕄 :=
  iprop(dutyTok ER (barCell c) 0 j ∗ dutyTok ER (dCell c (v1 j)) 0 0 ∗ dutyTok ER (dCell c (v2 j)) 0 0)

theorem three (Φ : Fin 3 → sProp 𝕄) : bigSep Finset.univ Φ = iprop(Φ 0 ∗ Φ 1 ∗ Φ 2) :=
  bigSep_univ_eq_bigSepL [0, 1, 2] (by decide) (by decide) Φ
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- One slot's five tokens on a device. -/
def slotToks (c : Dev nD) (j : Fin 4) : sProp 𝕄 :=
  iprop(dutyTok ER (barCell c) 0 j ∗ dutyTok ER (dCell c (s1 j)) 0 0 ∗ dutyTok ER (dCell c (v1 j)) 0 0
    ∗ dutyTok ER (dCell c (s2 j)) 0 0 ∗ dutyTok ER (dCell c (v2 j)) 0 0)

theorem toks_eq : bigSep allToks (fun x => (dutyTok ER x.1 x.2.1 x.2.2 : sProp 𝕄)) = bigSep Finset.univ fun c : Dev nD => each (slotToks c) := by
  unfold allToks; rw [bigSep_map, bigSep_univ_prod]
  refine bigSep_congr fun c _ => ?_
  rw [bigSep_univ_prod]
  refine (bigSep_congr (Ψ := fun a : Fin 3 => slotToks c a.succ) fun a _ => ?_).trans (three _)
  rw [five]; rfl

theorem slot_split (c : Dev nD) (j : Fin 4) : (slotToks c j : sProp 𝕄) ⊢ iprop(selfToks c j ∗ otherToks c j) := by
  unfold slotToks selfToks otherToks
  iintro ⟨H1, H2, H3, H4, H5⟩
  isplitl [H2 H4]; · isplitl [H2] <;> iassumption
  isplitl [H1]; · iexact H1
  isplitl [H3] <;> iassumption

theorem slot_rights (c : Dev nD) (j : Fin 4) : iprop(selfToks c j ∗ otherToks (peer c j) (-j)) ⊢ (rights c j : sProp 𝕄) := by
  unfold rights selfToks otherToks
  iintro ⟨⟨H2, H4⟩, H1, H3, H5⟩
  isplitl [H1]; · iexact H1
  isplitl [H2]; · iexact H2
  isplitl [H3]; · iexact H3
  isplitl [H4] <;> iassumption

/-- The devices, each shifted by `j`. -/
def shift (j : Fin 4) : Dev nD ≃ Dev nD where
  toFun c := peer c j
  invFun c := peer c (-j)
  left_inv c := peer_neg c j
  right_inv c := by have := peer_neg c (-j); rwa [neg_neg_slot] at this

theorem around (j k : Fin 4) :
    (bigSep Finset.univ fun c : Dev nD => (otherToks c k : sProp 𝕄)) = bigSep Finset.univ fun c : Dev nD => otherToks (peer c j) k :=
  bigSep_univ_equiv (shift j) fun c : Dev nD => (otherToks c k : sProp 𝕄)

/-- All the tokens, each with the device that pays. -/
theorem toks_around :
    (bigSep Finset.univ fun c : Dev nD => (each (slotToks c) : sProp 𝕄)) ⊢ bigSep Finset.univ fun c : Dev nD => each (rights c) := by
  have h1 : (bigSep Finset.univ fun c : Dev nD => (each (slotToks c) : sProp 𝕄))
      ⊢ bigSep Finset.univ fun c : Dev nD => iprop((selfToks c 1 ∗ selfToks c 2 ∗ selfToks c 3) ∗ otherToks c 1 ∗ otherToks c 2 ∗ otherToks c 3) :=
    bigSep_mono fun c _ => by
      unfold each
      refine (show (_ : sProp 𝕄) ⊢ _ from ?_)
      iintro ⟨H1, H2, H3⟩
      ihave H1' := (slot_split (F := F) c 1) $$ H1
      ihave H2' := (slot_split (F := F) c 2) $$ H2
      ihave H3' := (slot_split (F := F) c 3) $$ H3
      icases H1' with ⟨Ha1, Hb1⟩
      icases H2' with ⟨Ha2, Hb2⟩
      icases H3' with ⟨Ha3, Hb3⟩
      isplitl [Ha1 Ha2 Ha3]
      · isplitl [Ha1]; · iexact Ha1
        isplitl [Ha2] <;> iassumption
      isplitl [Hb1]; · iexact Hb1
      isplitl [Hb2] <;> iassumption
  have h2 : (bigSep Finset.univ fun c : Dev nD => iprop((selfToks c 1 ∗ selfToks c 2 ∗ selfToks c 3)
        ∗ otherToks (peer c 3) (-3) ∗ otherToks (peer c 2) (-2) ∗ otherToks (peer c 1) (-1)))
      ⊢ bigSep Finset.univ fun c : Dev nD => (each (rights c) : sProp 𝕄) :=
    bigSep_mono fun c _ => by
      unfold each
      refine (show (_ : sProp 𝕄) ⊢ _ from ?_)
      iintro ⟨⟨Ha1, Ha2, Ha3⟩, Hb3, Hb2, Hb1⟩
      isplitl [Ha1 Hb1]; · iapply (slot_rights c 1); isplitl [Ha1] <;> iassumption
      isplitl [Ha2 Hb2]; · iapply (slot_rights c 2); isplitl [Ha2] <;> iassumption
      iapply (slot_rights c 3); isplitl [Ha3] <;> iassumption
  refine h1.trans (Entails.trans (Entails.of_eq ?_) h2)
  rw [show (-3 : Fin 4) = 1 from rfl, show (-2 : Fin 4) = 2 from rfl, show (-1 : Fin 4) = 3 from rfl]
  rw [bigSep_sep', bigSep_sep', bigSep_sep', bigSep_sep', bigSep_sep', around 3 1, around 2 2, around 1 3,
    ← bigSep_sep', ← bigSep_sep', ← bigSep_sep', ← bigSep_sep', ← bigSep_sep']

/-! ## The credit -/

theorem cred_tally (c : Dev nD) (j : Fin 4) (sm : SemLoc sig) (n : ℕ) :
    (Pipeline.launchCred (fun d : Dev nD => tallyAt ((peer d j : Thread nD τ), sm) () n) c : sProp 𝕄) ⊢ cred (tallyAt ((c : Thread nD τ), sm) () n) :=
  Pipeline.launchCred_tallyAt sm (fun d => peer d j) (fun d => peer d (-j)) (shift j).right_inv (shift j).left_inv () n c

/-- What the others owe a device at launch, as its credit. -/
theorem creds (c : Dev nD) : (Pipeline.launchCred O₀ c : sProp 𝕄) ⊢ iprop(cred (tallyAt (barCell c) () 3) ∗ each (arrivals c)) := by
  have e : (O₀ : Dev nD → CellTallies nD τ sig Unit)
      = fun d => oQ d 3 + oQ d 2 + oQ d 1 + oP d 3 + oP d 2 + oP d 1 + oB d 3 + oB d 2 + oB d 1 := rfl
  rw [e]
  simp only [Pipeline.launchCred_add]
  unfold each arrivals
  iintro ⟨⟨⟨⟨⟨⟨⟨⟨HQ3, HQ2⟩, HQ1⟩, HP3⟩, HP2⟩, HP1⟩, HB3⟩, HB2⟩, HB1⟩
  ihave HQ3' := (cred_tally (F := F) c 3 (.dma (v2 (-3))) N) $$ HQ3
  ihave HQ2' := (cred_tally (F := F) c 2 (.dma (v2 (-2))) N) $$ HQ2
  ihave HQ1' := (cred_tally (F := F) c 1 (.dma (v2 (-1))) N) $$ HQ1
  ihave HP3' := (cred_tally (F := F) c 3 (.dma (v1 (-3))) N) $$ HP3
  ihave HP2' := (cred_tally (F := F) c 2 (.dma (v1 (-2))) N) $$ HP2
  ihave HP1' := (cred_tally (F := F) c 1 (.dma (v1 (-1))) N) $$ HP1
  ihave HB3' := (cred_tally (F := F) c 3 (.reg barS) 1) $$ HB3
  ihave HB2' := (cred_tally (F := F) c 2 (.reg barS) 1) $$ HB2
  ihave HB1' := (cred_tally (F := F) c 1 (.reg barS) 1) $$ HB1
  isplitl [HB3' HB2' HB1']
  · rw [show (tallyAt (barCell c) () 3 : CellTallies nD τ sig Unit)
        = tallyAt (barCell c) () 1 + (tallyAt (barCell c) () 1 + tallyAt (barCell c) () 1) by rw [tallyAt_add, tallyAt_add]]
    iapply (cred_add _ _).2
    isplitl [HB3']; · iexact HB3'
    iapply (cred_add _ _).2
    isplitl [HB2'] <;> iassumption
  isplitl [HP3' HQ3']; · isplitl [HP3'] <;> iassumption
  isplitl [HP2' HQ2']; · isplitl [HP2'] <;> iassumption
  isplitl [HP1'] <;> iassumption

/-! ## The launch element -/

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  have e : dCell x.1 (dsem x.2) = barCell c := h
  have e2 : (SemLoc.dma (dsem x.2) : SemLoc sig) = .reg barS := congrArg Prod.snd e
  cases e2

/-- The launch element: the pipelines' at the staging counters; the exchange's at its own. -/
def u₀ : UU :=
  (initOf (Pipeline.cells cfgs cellOf_inj) (Pipeline.launchToks cfgs cellOf_inj), launchOf barCells scCells allToks)

/-- A resource as a family over the devices: all of it with device `c₀`. -/
def parked (c₀ : Dev nD) (X : sProp 𝕄) (c : Dev nD) : sProp 𝕄 := if c = c₀ then X else iprop(emp)
theorem bigSep_parked (c₀ : Dev nD) (X : sProp 𝕄) : bigSep Finset.univ (parked c₀ X) = X := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked 0 (BI.own (ER (launchOf barCells scCells allToks)))

theorem bar_zero (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

section Init

variable (D : Dev nD → CB F) (Wt : Dev nD → S8x1024x1024.Idx → Elt F .bf16) (ρ : Dev nD → PrngReg)

/-- What every device may consult: all the invariants, and that every barrier is at its first round. -/
def records (K : GSem nD τ sig → ℕ) : sProp 𝕄 := iprop(invs D Wt K ∗ bigSep barCells fun g => reached ER g 0)
instance records_persistent (K : GSem nD τ sig → ℕ) : BI.Persistent (records D Wt K) := by unfold records; infer_instance

theorem reached_bar (c : Dev nD) : (bigSep barCells fun g => (reached ER g 0 : sProp 𝕄)) ⊢ reached ER (barCell c) 0 :=
  bigSep_elim (Finset.mem_map_of_mem barEmb (Finset.mem_univ c))

/-- What rides beside a device's buffers up to the exchange, -/
def before (c : Dev nD) : sProp 𝕄 := iprop(kept D Wt c ∗ (∃ r, prngReg c r) ∗ ∃ W, owes (c : Thread nD τ) (O₀ c) W)
/-- and after it. -/
def beyond (c : Dev nD) : sProp 𝕄 := iprop(semVal (barCell c) 0 ∗ ∃ W, owes (c : Thread nD τ) (0 : CellTallies nD τ sig Unit) W)

/-- What of a device's launch holdings is its own. -/
def dealt (c : Dev nD) : sProp 𝕄 :=
  iprop((atPos ER (barCell c) 0 ∅ 0 ∗ each (unopened c) ∗ each (rights c))
    ∗ (cred (tallyAt (barCell c) () 3) ∗ each (arrivals c)) ∗ owes (c : Thread nD τ) (O₀ c) ∅ ∗ ∃ r, prngReg c r)

theorem before_intro (K : GSem nD τ sig → ℕ) (c : Dev nD) : iprop(records D Wt K ∗ dealt c) ⊢ before D Wt c := by
  unfold records dealt before kept
  iintro ⟨⟨#HI, #HR⟩, ⟨HaB, Hun, Hri⟩, ⟨HcB, Har⟩, HO, Hp⟩
  isplitl [HaB Hun Hri HcB Har]
  · iexists K
    isplitr; · iexact HI
    isplitl [HaB]; · iexact HaB
    isplitl [Hun]; · iexact Hun
    isplitr
    · unfold each
      isplitr; · iapply (reached_bar (F := F) (peer c 1)); iexact HR
      isplitr; · iapply (reached_bar (F := F) (peer c 2)); iexact HR
      iapply (reached_bar (F := F) (peer c 3)); iexact HR
    isplitl [Hri]; · iexact Hri
    isplitl [HcB] <;> iassumption
  isplitl [Hp]; · iexact Hp
  iexists ∅; iexact HO

theorem opens_eq : bigSep scCells (fun g => (openTok ER g : sProp 𝕄)) ⊢ bigSep Finset.univ (fun c : Dev nD => each (unopened c)) := by
  unfold scCells
  rw [bigSep_map, bigSep_univ_prod]
  refine bigSep_mono fun c _ => ?_
  rw [bigSep_univ_prod, four, three, three, three, three]
  unfold each unopened
  refine (show (_ : sProp 𝕄) ⊢ _ from ?_)
  iintro ⟨⟨H1, H2, H3⟩, ⟨H4, H5, H6⟩, ⟨H7, H8, H9⟩, ⟨Ha, Hb, Hc⟩⟩
  isplitl [H1 H4 H7 Ha]
  · isplitl [H1]; · iexact H1
    isplitl [H4]; · iexact H4
    isplitl [H7]; · iexact H7
    iexact Ha
  isplitl [H2 H5 H8 Hb]
  · isplitl [H2]; · iexact H2
    isplitl [H5]; · iexact H5
    isplitl [H8]; · iexact H8
    iexact Hb
  · isplitl [H3]; · iexact H3
    isplitl [H6]; · iexact H6
    isplitl [H9]; · iexact H9
    iexact Hc

/-- The launch, on every device at once: everything dealt. -/
theorem init :
    iprop((bigSep Finset.univ fun c : Dev nD => iprop(unscopedSems0 c ∗ owes (c : Thread nD τ) (O₀ c) ∅ ∗ Pipeline.launchCred O₀ c ∗ prngReg c (ρ c) ∗ G c))
        ∗ levAts L lv)
      ⊢ (|={Set.univ}=> bigSep Finset.univ (before D Wt) : sProp 𝕄) := by
  have hcore : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(((cred (tallyAt (barCell c) () 3) ∗ each (arrivals c)) ∗ owes (c : Thread nD τ) (O₀ c) ∅ ∗ ∃ r, prngReg c r)
          ∗ (semVal (barCell c) 0 ∗ G c)) : sProp 𝕄) := bigSep_mono fun c _ => by
    rw [bar_zero]
    refine (show (_ : sProp 𝕄) ⊢ _ from ?_)
    iintro ⟨Hb, HO, Hcr, Hp, HG⟩
    ihave Hc := (creds (F := F) c) $$ Hcr
    isplitl [HO Hc Hp]
    · isplitl [Hc]; · iexact Hc
      isplitl [HO]; · iexact HO
      iexists (ρ c); iexact Hp
    isplitl [Hb] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := hcore $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells allToks)) from
    Entails.of_eq (bigSep_parked (F := F) 0 (BI.own (ER (launchOf barCells scCells allToks))))) $$ HG
  imod (Rounds.fund_launch ER (sched D Wt) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records D Wt κ) (Φ := fun c => dealt c) fun c _ => before_intro D Wt κ c)
  isplitr
  · unfold records invs
    isplitr; · iexact Hinv
    iexact Hr
  unfold dealt
  iapply pair
  isplitr [HB]
  · iapply pair; isplitl [Hat]; · iapply hat $$ Hat
    iapply pair; isplitl [Hopen]; · iapply (opens_eq (F := F)) $$ Hopen
    iapply (toks_around (F := F))
    iapply (Entails.of_eq (toks_eq (F := F))) $$ Htok
  · iexact HB

end Init

end Cert.Proof.Moe

end
-- ==== Proof.Left.lean ====
/-
What each call leaves in the unscoped buffers: its results written over the valuation it was entered at, the rest unchanged.
-/
module

public import proofs.«01_k».proof.Proof.Deal
public import proofs.«01_k».proof.Proof.Gen.KernelIdeal.Regions

@[expose] public section

set_option maxRecDepth 16384
set_option Elab.async false

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A valuation for every device. -/
abbrev Vals (F : FTy → Type) : Type := Dev nD → Valuation τ sig (Elt F)

/-! ## What each call leaves -/

def left0 (A : Vals F) : Vals F := fun c => Function.update (A c) main_v34 (A c main_arg3)
def left1 (A : Vals F) : Vals F := fun c =>
  Function.update (Function.update (Function.update (A c) main_v35_0 (k1_pay2 (A c main_arg0) (A c main_v33)))
    main_v35_1 (k1_pay3 (A c main_arg0) (A c main_arg1) (A c main_arg2))) main_v35_2 (k1_pay1 (A c main_arg0))
def left2 (A : Vals F) : Vals F := fun c =>
  Function.update (Function.update (A c) main_v37_0 (answer (rowsOf A) (wgtsOf A) c)) main_v37_1 (k2_pay1 (A c main_v35_2) (A c main_arg4))
def left3 (A : Vals F) : Vals F := fun c =>
  Function.update (A c) main_v39 (k3_pay1 (A c main_v33) (A c main_v38) (A c main_v37_1) (A c main_v35_1))

/-- The four calls' proof data. -/
def pdats (A0 A1 A2 A3 : Vals F) : (p : Fin 4) → (c : Dev nD) → Dat τ (Elt F) Unit ℕ UU ℕ (cfgs p) c
  | 0 => dat0 A0
  | 1 => dat1 A1
  | 2 => dat2 A2
  | 3 => dat3 A3

/-! ## Off a call's arrays -/

theorem arr_mem {gr W : ℕ} (win : Fin W → Pipeline.WinSpec sig gr) (w : Fin W) :
    Proc.devRef .tc (Pipeline.arrRef win w) ∈ (Pipeline.arrRefs (τ := τ) win) :=
  Finset.mem_map_of_mem _ (Finset.mem_image_of_mem _ (Finset.mem_univ w))

/-- A buffer that is none of a call's arrays is not the array of one of its windows. -/
theorem off_arr {gr W : ℕ} (win : Fin W → Pipeline.WinSpec sig gr) (w : Fin W) {b : DevRef τ sig}
    (hb : b ∈ Pipeline.ucRefs τ sig \ Pipeline.arrRefs (τ := τ) win) : b ≠ Proc.devRef .tc (Pipeline.arrRef win w) :=
  fun h => (Finset.mem_sdiff.mp hb).2 (h ▸ arr_mem win w)

/-! ## On a call's arrays -/

theorem left0_ne (A : Vals F) (c : Dev nD) (b : DevRef τ sig) (h0 : b ≠ Proc.devRef .tc main_v34) : left0 A c b = A c b := by
  unfold left0
  rw [Function.update_of_ne h0]
theorem left0_main_v34 (A : Vals F) (c : Dev nD) : left0 A c main_v34 = A c main_arg3 := by
  unfold left0
  rw [Function.update_self]

theorem left1_ne (A : Vals F) (c : Dev nD) (b : DevRef τ sig) (h0 : b ≠ Proc.devRef .tc main_v35_0) (h1 : b ≠ Proc.devRef .tc main_v35_1) (h2 : b ≠ Proc.devRef .tc main_v35_2) : left1 A c b = A c b := by
  unfold left1
  rw [Function.update_of_ne h2, Function.update_of_ne h1, Function.update_of_ne h0]
theorem left1_main_v35_0 (A : Vals F) (c : Dev nD) : left1 A c main_v35_0 = k1_pay2 (A c main_arg0) (A c main_v33) := by
  unfold left1
  rw [Function.update_of_ne (show (Proc.devRef .tc main_v35_0 : DevRef τ sig) ≠ Proc.devRef .tc main_v35_2 by decide), Function.update_of_ne (show (Proc.devRef .tc main_v35_0 : DevRef τ sig) ≠ Proc.devRef .tc main_v35_1 by decide), Function.update_self]
theorem left1_main_v35_1 (A : Vals F) (c : Dev nD) : left1 A c main_v35_1 = k1_pay3 (A c main_arg0) (A c main_arg1) (A c main_arg2) := by
  unfold left1
  rw [Function.update_of_ne (show (Proc.devRef .tc main_v35_1 : DevRef τ sig) ≠ Proc.devRef .tc main_v35_2 by decide), Function.update_self]
theorem left1_main_v35_2 (A : Vals F) (c : Dev nD) : left1 A c main_v35_2 = k1_pay1 (A c main_arg0) := by
  unfold left1
  rw [Function.update_self]

theorem left2_ne (A : Vals F) (c : Dev nD) (b : DevRef τ sig) (h0 : b ≠ Proc.devRef .tc main_v37_0) (h1 : b ≠ Proc.devRef .tc main_v37_1) : left2 A c b = A c b := by
  unfold left2
  rw [Function.update_of_ne h1, Function.update_of_ne h0]
theorem left2_main_v37_0 (A : Vals F) (c : Dev nD) : left2 A c main_v37_0 = answer (rowsOf A) (wgtsOf A) c := by
  unfold left2
  rw [Function.update_of_ne (show (Proc.devRef .tc main_v37_0 : DevRef τ sig) ≠ Proc.devRef .tc main_v37_1 by decide), Function.update_self]
theorem left2_main_v37_1 (A : Vals F) (c : Dev nD) : left2 A c main_v37_1 = k2_pay1 (A c main_v35_2) (A c main_arg4) := by
  unfold left2
  rw [Function.update_self]

theorem left3_ne (A : Vals F) (c : Dev nD) (b : DevRef τ sig) (h0 : b ≠ Proc.devRef .tc main_v39) : left3 A c b = A c b := by
  unfold left3
  rw [Function.update_of_ne h0]
theorem left3_main_v39 (A : Vals F) (c : Dev nD) : left3 A c main_v39 = k3_pay1 (A c main_v33) (A c main_v38) (A c main_v37_1) (A c main_v35_1) := by
  unfold left3
  rw [Function.update_self]

theorem left0_on_1 (A : Vals F) (c : Dev nD) : (dat0 A c).arrAt 1 cfg0.N = left0 A c main_v34 := (arr0_1 A c).trans (left0_main_v34 A c).symm
theorem left0_on (A : Vals F) (c : Dev nD) (w : Fin 2) : (dat0 A c).arrAt w cfg0.N = left0 A c (Proc.devRef .tc (Pipeline.arrRef spec0 w)) := by
  match w with
  | 0 => exact ((dat0 A c).arrAt_in 0 rfl _).trans (left0_ne A c (Proc.devRef .tc main_arg3) (by decide)).symm
  | 1 => exact left0_on_1 A c

theorem left1_on_4 (A : Vals F) (c : Dev nD) : (dat1 A c).arrAt 4 cfg1.N = left1 A c main_v35_0 := (arr1_4 A c).trans (left1_main_v35_0 A c).symm
theorem left1_on_5 (A : Vals F) (c : Dev nD) : (dat1 A c).arrAt 5 cfg1.N = left1 A c main_v35_1 := (arr1_5 A c).trans (left1_main_v35_1 A c).symm
theorem left1_on_6 (A : Vals F) (c : Dev nD) : (dat1 A c).arrAt 6 cfg1.N = left1 A c main_v35_2 := (arr1_6 A c).trans (left1_main_v35_2 A c).symm
set_option maxHeartbeats 1000000 in
theorem left1_on (A : Vals F) (c : Dev nD) (w : Fin 7) : (dat1 A c).arrAt w cfg1.N = left1 A c (Proc.devRef .tc (Pipeline.arrRef spec1 w)) := by
  match w with
  | 0 => exact ((dat1 A c).arrAt_in 0 rfl _).trans (left1_ne A c (Proc.devRef .tc main_arg0) (by decide) (by decide) (by decide)).symm
  | 1 => exact ((dat1 A c).arrAt_in 1 rfl _).trans (left1_ne A c (Proc.devRef .tc main_arg1) (by decide) (by decide) (by decide)).symm
  | 2 => exact ((dat1 A c).arrAt_in 2 rfl _).trans (left1_ne A c (Proc.devRef .tc main_arg2) (by decide) (by decide) (by decide)).symm
  | 3 => exact ((dat1 A c).arrAt_in 3 rfl _).trans (left1_ne A c (Proc.devRef .tc main_v33) (by decide) (by decide) (by decide)).symm
  | 4 => exact left1_on_4 A c
  | 5 => exact left1_on_5 A c
  | 6 => exact left1_on_6 A c

theorem left2_on_4 (A : Vals F) (c : Dev nD) : (dat2 A c).arrAt 4 cfg2.N = left2 A c main_v37_0 := (arr2_4 A c).trans (left2_main_v37_0 A c).symm
theorem left2_on_5 (A : Vals F) (c : Dev nD) : (dat2 A c).arrAt 5 cfg2.N = left2 A c main_v37_1 := (arr2_5 A c).trans (left2_main_v37_1 A c).symm
set_option maxHeartbeats 1000000 in
theorem left2_on (A : Vals F) (c : Dev nD) (w : Fin 6) : (dat2 A c).arrAt w cfg2.N = left2 A c (Proc.devRef .tc (Pipeline.arrRef spec2 w)) := by
  match w with
  | 0 => exact ((dat2 A c).arrAt_in 0 rfl _).trans (left2_ne A c (Proc.devRef .tc main_v36) (by decide) (by decide)).symm
  | 1 => exact ((dat2 A c).arrAt_in 1 rfl _).trans (left2_ne A c (Proc.devRef .tc main_v35_2) (by decide) (by decide)).symm
  | 2 => exact ((dat2 A c).arrAt_in 2 rfl _).trans (left2_ne A c (Proc.devRef .tc main_arg4) (by decide) (by decide)).symm
  | 3 => exact ((dat2 A c).arrAt_in 3 rfl _).trans (left2_ne A c (Proc.devRef .tc main_v34) (by decide) (by decide)).symm
  | 4 => exact left2_on_4 A c
  | 5 => exact left2_on_5 A c

theorem left3_on_4 (A : Vals F) (c : Dev nD) : (dat3 A c).arrAt 4 cfg3.N = left3 A c main_v39 := (arr3_4 A c).trans (left3_main_v39 A c).symm
set_option maxHeartbeats 1000000 in
theorem left3_on (A : Vals F) (c : Dev nD) (w : Fin 5) : (dat3 A c).arrAt w cfg3.N = left3 A c (Proc.devRef .tc (Pipeline.arrRef spec3 w)) := by
  match w with
  | 0 => exact ((dat3 A c).arrAt_in 0 rfl _).trans (left3_ne A c (Proc.devRef .tc main_v33) (by decide)).symm
  | 1 => exact ((dat3 A c).arrAt_in 1 rfl _).trans (left3_ne A c (Proc.devRef .tc main_v38) (by decide)).symm
  | 2 => exact ((dat3 A c).arrAt_in 2 rfl _).trans (left3_ne A c (Proc.devRef .tc main_v37_1) (by decide)).symm
  | 3 => exact ((dat3 A c).arrAt_in 3 rfl _).trans (left3_ne A c (Proc.devRef .tc main_v35_1) (by decide)).symm
  | 4 => exact left3_on_4 A c

theorem left0_off (A : Vals F) (c : Dev nD) (b : DevRef τ sig) (hb : b ∈ Pipeline.ucRefs τ sig \ Pipeline.arrRefs (τ := τ) spec0) :
    left0 A c b = A c b := left0_ne A c b (off_arr spec0 1 hb)
theorem left1_off (A : Vals F) (c : Dev nD) (b : DevRef τ sig) (hb : b ∈ Pipeline.ucRefs τ sig \ Pipeline.arrRefs (τ := τ) spec1) :
    left1 A c b = A c b := left1_ne A c b (off_arr spec1 4 hb) (off_arr spec1 5 hb) (off_arr spec1 6 hb)
theorem left2_off (A : Vals F) (c : Dev nD) (b : DevRef τ sig) (hb : b ∈ Pipeline.ucRefs τ sig \ Pipeline.arrRefs (τ := τ) spec2) :
    left2 A c b = A c b := left2_ne A c b (off_arr spec2 4 hb) (off_arr spec2 5 hb)
theorem left3_off (A : Vals F) (c : Dev nD) (b : DevRef τ sig) (hb : b ∈ Pipeline.ucRefs τ sig \ Pipeline.arrRefs (τ := τ) spec3) :
    left3 A c b = A c b := left3_ne A c b (off_arr spec3 4 hb)

/-! ## The staging counters' levels -/

theorem in_L (c : Dev nD) (sm : SemLoc sig) : () ∈ L ((c : Thread nD τ), sm) := by rw [L_tc]; exact Finset.mem_singleton_self _
theorem low0 : ∀ (w : Fin 2) (s : Fin (spec0 w).nbuf), semLv (.dma ((spec0 w).sem s)) ≤ 0 := by decide
theorem low1 : ∀ (w : Fin 7) (s : Fin (spec1 w).nbuf), semLv (.dma ((spec1 w).sem s)) ≤ 0 := by decide
theorem low2 : ∀ (w : Fin 6) (s : Fin (spec2 w).nbuf), semLv (.dma ((spec2 w).sem s)) ≤ 0 := by decide
theorem low3 : ∀ (w : Fin 5) (s : Fin (spec3 w).nbuf), semLv (.dma ((spec3 w).sem s)) ≤ 3 := by decide

end Cert.Proof.Moe

end
-- ==== Proof.Calls.lean ====
/-
The four calls as segments of the program: each entered from every unscoped buffer held at a valuation, and left with them held
at that valuation with the call's results written.
-/
module

public import proofs.«01_k».proof.Proof.Left

@[expose] public section

set_option maxRecDepth 16384
set_option Elab.async false

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The segments -/

section Segs

variable (A0 A1 A2 A3 : Vals F)

local notation "ℝ𝕊" => Pipeline.RegionSeg (pcfgs (F := F)) adm (pdats A0 A1 A2 A3) () defs₀ 𝒱₀ L lv

/-- The unscoped buffers that are none of a call's arrays. -/
abbrev others {gr W : ℕ} (win : Fin W → Pipeline.WinSpec sig gr) : Finset (DevRef τ sig) := Pipeline.ucRefs τ sig \ Pipeline.arrRefs (τ := τ) win

theorem drop_emp (P : sProp 𝕄) : iprop(P ∗ emp) ⊢ P := Entails.of_eq (BI.equiv_iff.mp sep_emp)
theorem add_emp (P : sProp 𝕄) : P ⊢ iprop(P ∗ emp) := Entails.of_eq (BI.equiv_iff.mp sep_emp).symm

theorem enter0 (c : Dev nD) :
    iprop(Pipeline.scopedRest (Pipeline.pin (pcfgs (F := F)) adm 0).spec c ∗ emp) ⊢ ((pdats A0 A1 A2 A3 0 c).Φ 0 : sProp 𝕄) := by
  rw [show (pdats A0 A1 A2 A3 0 c).Φ 0 = Pipeline.scopedRest spec0 c from rfl]; exact drop_emp _
theorem leave0 (c : Dev nD) :
    ((pdats A0 A1 A2 A3 0 c).Φ (Fin.last _) : sProp 𝕄) ⊢ iprop(Pipeline.scopedRest (Pipeline.pin (pcfgs (F := F)) adm 0).spec c ∗ emp) := by
  rw [show (pdats A0 A1 A2 A3 0 c).Φ (Fin.last _) = Pipeline.scopedRest spec0 c from rfl]; exact add_emp _

theorem enter1 (c : Dev nD) :
    iprop(Pipeline.scopedRest (Pipeline.pin (pcfgs (F := F)) adm 1).spec c ∗ emp) ⊢ ((pdats A0 A1 A2 A3 1 c).Φ 0 : sProp 𝕄) := by
  rw [show (pdats A0 A1 A2 A3 1 c).Φ 0 = Pipeline.scopedRest spec1 c from rfl]; exact drop_emp _
theorem leave1 (c : Dev nD) :
    ((pdats A0 A1 A2 A3 1 c).Φ (Fin.last _) : sProp 𝕄) ⊢ iprop(Pipeline.scopedRest (Pipeline.pin (pcfgs (F := F)) adm 1).spec c ∗ emp) := by
  rw [show (pdats A0 A1 A2 A3 1 c).Φ (Fin.last _) = Pipeline.scopedRest spec1 c from rfl]; exact add_emp _

theorem enter3 (c : Dev nD) :
    iprop(Pipeline.scopedRest (Pipeline.pin (pcfgs (F := F)) adm 3).spec c ∗ emp) ⊢ ((pdats A0 A1 A2 A3 3 c).Φ 0 : sProp 𝕄) := by
  rw [show (pdats A0 A1 A2 A3 3 c).Φ 0 = Pipeline.scopedRest spec3 c from rfl]; exact drop_emp _
theorem leave3 (c : Dev nD) :
    ((pdats A0 A1 A2 A3 3 c).Φ (Fin.last _) : sProp 𝕄) ⊢ iprop(Pipeline.scopedRest (Pipeline.pin (pcfgs (F := F)) adm 3).spec c ∗ emp) := by
  rw [show (pdats A0 A1 A2 A3 3 c).Φ (Fin.last _) = Pipeline.scopedRest spec3 c from rfl]; exact add_emp _

/-- What rides beside a quiet call's arrays before the exchange. -/
def aside (D : Dev nD → CB F) (Wt : Dev nD → S8x1024x1024.Idx → Elt F .bf16) (S : Finset (DevRef τ sig)) (A : Vals F) (c : Dev nD) : sProp 𝕄 :=
  iprop(StableHlo.held (c : Thread nD τ) S (A c) ∗ kept D Wt c ∗ ∃ r, prngReg c r)

set_option maxHeartbeats 2000000 in
set_option backward.isDefEq.respectTransparency.types false in
def call0 : ℝ𝕊 0 :=
  Pipeline.RegionSeg.ofHeld (pcfgs (F := F)) adm (pdats A0 A1 A2 A3) () defs₀ 𝒱₀ L lv 0 O₀ (fun _ => iprop(emp)) (fun _ => iprop(emp))
    launch0.toP rfl (fun c => (body0 A0 c).loose) (fun _ _ => rfl) (fun _ => rfl) (fun c w => (dat0 A0 c).share_full (fun _ => rfl) w)
    (enter0 A0 A1 A2 A3)
    (leave0 A0 A1 A2 A3)
    (fun _ => 0) ⟨fun c w s => in_L c _, fun c w s => low0 w s, fun c g i h => above_O₀ c g i h⟩
    (aside (rowsOf A2) (wgtsOf A2) (others spec0) A0) A0 (left0 A0) (fun _ _ => rfl) (left0_on A0)

set_option maxHeartbeats 2000000 in
set_option backward.isDefEq.respectTransparency.types false in
def call1 : ℝ𝕊 1 :=
  Pipeline.RegionSeg.ofHeld (pcfgs (F := F)) adm (pdats A0 A1 A2 A3) () defs₀ 𝒱₀ L lv 1 O₀ (fun _ => iprop(emp)) (fun _ => iprop(emp))
    launch1.toP rfl (fun c => (body1 A1 c).loose) (fun _ _ => rfl) (fun _ => rfl) (fun c w => (dat1 A1 c).share_full (fun _ => rfl) w)
    (enter1 A0 A1 A2 A3)
    (leave1 A0 A1 A2 A3)
    (fun _ => 0) ⟨fun c w s => in_L c _, fun c w s => low1 w s, fun c g i h => above_O₀ c g i h⟩
    (aside (rowsOf A2) (wgtsOf A2) (others spec1) A1) A1 (left1 A1) (fun _ _ => rfl) (left1_on A1)

set_option maxHeartbeats 2000000 in
set_option backward.isDefEq.respectTransparency.types false in
def call3 : ℝ𝕊 3 :=
  Pipeline.RegionSeg.ofHeld (pcfgs (F := F)) adm (pdats A0 A1 A2 A3) () defs₀ 𝒱₀ L lv 3 (fun _ => 0) (fun _ => iprop(emp)) (fun _ => iprop(emp))
    launch3.toP rfl (fun c => (body3 A3 c).loose) (fun _ _ => rfl) (fun _ => rfl) (fun c w => (dat3 A3 c).share_full (fun _ => rfl) w)
    (enter3 A0 A1 A2 A3)
    (leave3 A0 A1 A2 A3)
    (fun _ => 3) ⟨fun c w s => in_L c _, fun c w s => low3 w s, fun c g i h => Above.zero 3 g i h⟩
    (fun c => iprop(StableHlo.held (c : Thread nD τ) (others spec3) (A3 c) ∗ semVal (barCell c) 0)) A3 (left3 A3) (fun _ _ => rfl) (left3_on A3)

theorem owed2_above (c : Dev nD) (t : Fin (cfg2.N + 1)) (g : GSem nD τ sig) (i : Unit) (h : 0 < (dat2 A2 c).owed t g i) : i ∈ L g ∧ 0 < lv g i := by
  by_cases ht : t.val = 0
  · have e : (dat2 A2 c).owed t = O₀ c := if_pos ht
    rw [e] at h; exact above_O₀ c g i h
  · have e : (dat2 A2 c).owed t = 0 := if_neg ht
    rw [e] at h; exact Above.zero 0 g i h

theorem enter2 (c : Dev nD) :
    iprop(Pipeline.scopedRest spec2 c ∗ (∃ r, prngReg c r) ∗ StableHlo.held (c.tc : Thread nD τ) ∅ (A2 c) ∗ ready (rowsOf A2) (wgtsOf A2) c)
      ⊢ ((dat2 A2 c).Φ 0 : sProp 𝕄) := by
  rw [phi2_zero]
  iintro ⟨Hs, Hp, -, HX⟩
  isplitl [HX]; · iexact HX
  isplitl [Hs] <;> iassumption

theorem leave2 (c : Dev nD) :
    ((dat2 A2 c).Φ (Fin.last _) : sProp 𝕄)
      ⊢ iprop(Pipeline.scopedRest spec2 c ∗ (∃ r, prngReg c r) ∗ StableHlo.held (c.tc : Thread nD τ) ∅ (left2 A2 c) ∗ Pipeline.ownSems0 ownS c
        ∗ semVal (barCell c) 0) := by
  rw [phi2_last, own_zero]
  unfold done each StableHlo.held
  rw [BI.bigSep_empty]
  iintro ⟨⟨Hb, ⟨H1, H2, H3⟩, H0⟩, Hs, Hp⟩
  isplitl [Hs]; · iexact Hs
  isplitl [Hp]; · iexact Hp
  isplitr; · iempintro
  isplitr [Hb]; swap; · iexact Hb
  isplitl [H0]; · iexact H0
  isplitl [H1]; · iexact H1
  isplitl [H2] <;> iassumption

set_option maxHeartbeats 2000000 in
set_option backward.isDefEq.respectTransparency.types false in
def call2 : ℝ𝕊 2 :=
  Pipeline.RegionSeg.ofTalk (pcfgs (F := F)) adm (pdats A0 A1 A2 A3) () defs₀ 𝒱₀ L lv 2 ownS own_facts
    ∅ (others spec2) (Finset.empty_subset _) launch2.toP rfl (fun c => (body2 A2 c).loose)
    (fun _ => 0) O₀ (fun c => (owed2_zero A2 c).trans (zero_add _).symm) (owed2_last A2) (fun _ => rfl) (fun c w => (dat2 A2 c).share_full (fun _ => rfl) w)
    A2 (left2 A2) (fun c b hb => left2_off A2 c b (by rwa [Finset.sdiff_empty] at hb))
    (kept (rowsOf A2) (wgtsOf A2)) (fun c => semVal (barCell c) 0) (ready (rowsOf A2) (wgtsOf A2)) (fun c => semVal (barCell c) 0)
    (open_all (rowsOf A2) (wgtsOf A2)) (enter2 A2) (leave2 A2)
    (fun c => by iintro H; imodintro; iexact H)
    (fun _ => 0) ⟨fun c w s => in_L c _, fun c w s => low2 w s, fun c t g i h => owed2_above A2 c t g i h⟩
    (fun _ => iprop(emp)) (fun _ _ => rfl) (left2_on A2)

end Segs

end Cert.Proof.Moe

end
-- ==== Proof.Run.lean ====
/-
The run of the whole program from the launch to its end, on every device: the arguments as launched, the result at the last
valuation, every counter at zero.
-/
module

public import proofs.«01_k».proof.Proof.Calls

@[expose] public section

set_option maxRecDepth 16384
set_option Elab.async false

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's buffers, split at a call's arrays -/

/-- The unscoped buffers are a call's arrays and the others. -/
theorem held_at {gr W : ℕ} (win : Fin W → Pipeline.WinSpec sig gr) (hw : ∀ w, (Pipeline.arrRef win w).isScoped = false) (c : Dev nD)
    (V : Valuation τ sig (Elt F)) :
    (StableHlo.held (c : Thread nD τ) (Pipeline.ucRefs τ sig) V : sProp 𝕄)
      = iprop(StableHlo.held (c : Thread nD τ) (Pipeline.arrRefs (τ := τ) win) V ∗ StableHlo.held (c : Thread nD τ) (others win) V) :=
  StableHlo.held_sub_split (c : Thread nD τ) (Pipeline.arrRefs_sub_ucRefs win hw) V

/-- A call that changes only its arrays leaves the unscoped buffers held at what it leaves. -/
theorem held_back {gr W : ℕ} (win : Fin W → Pipeline.WinSpec sig gr) (hw : ∀ w, (Pipeline.arrRef win w).isScoped = false) (c : Dev nD)
    (V V' : Valuation τ sig (Elt F)) (h : ∀ b ∈ others win, V' b = V b) :
    (iprop(StableHlo.held (c : Thread nD τ) (Pipeline.arrRefs (τ := τ) win) V' ∗ StableHlo.held (c : Thread nD τ) (others win) V) : sProp 𝕄)
      = StableHlo.held (c : Thread nD τ) (Pipeline.ucRefs τ sig) V' := by
  rw [held_at win hw c V', StableHlo.held_congr (c : Thread nD τ) (S := others win) h]

theorem uc0 : ∀ w, (Pipeline.arrRef spec0 w).isScoped = false := by decide
theorem uc1 : ∀ w, (Pipeline.arrRef spec1 w).isScoped = false := by decide
theorem uc2 : ∀ w, (Pipeline.arrRef spec2 w).isScoped = false := by decide
theorem uc3 : ∀ w, (Pipeline.arrRef spec3 w).isScoped = false := by decide

section Ends

variable (A0 A1 A2 A3 : Vals F)

theorem pre0 (c : Dev nD) : (call0 A0 A1 A2 A3).pre c
    = iprop(StableHlo.held (c : Thread nD τ) (Pipeline.arrRefs (τ := τ) spec0) (A0 c) ∗ emp ∗ aside (rowsOf A2) (wgtsOf A2) (others spec0) A0 c
        ∗ ∃ Wd, owes (c : Thread nD τ) (O₀ c) Wd) := rfl
theorem post0 (c : Dev nD) : (call0 A0 A1 A2 A3).post c
    = iprop(StableHlo.held (c : Thread nD τ) (Pipeline.arrRefs (τ := τ) spec0) (left0 A0 c) ∗ emp ∗ aside (rowsOf A2) (wgtsOf A2) (others spec0) A0 c
        ∗ ∃ Wd, owes (c : Thread nD τ) (O₀ c) Wd) := rfl
theorem pre1 (c : Dev nD) : (call1 A0 A1 A2 A3).pre c
    = iprop(StableHlo.held (c : Thread nD τ) (Pipeline.arrRefs (τ := τ) spec1) (A1 c) ∗ emp ∗ aside (rowsOf A2) (wgtsOf A2) (others spec1) A1 c
        ∗ ∃ Wd, owes (c : Thread nD τ) (O₀ c) Wd) := rfl
theorem post1 (c : Dev nD) : (call1 A0 A1 A2 A3).post c
    = iprop(StableHlo.held (c : Thread nD τ) (Pipeline.arrRefs (τ := τ) spec1) (left1 A1 c) ∗ emp ∗ aside (rowsOf A2) (wgtsOf A2) (others spec1) A1 c
        ∗ ∃ Wd, owes (c : Thread nD τ) (O₀ c) Wd) := rfl
theorem pre2 (c : Dev nD) : (call2 A0 A1 A2 A3).pre c
    = iprop(StableHlo.held (c : Thread nD τ) (Pipeline.arrRefs (τ := τ) spec2) (A2 c) ∗ (∃ r, prngReg c r)
        ∗ (StableHlo.held (c : Thread nD τ) (others spec2) (A2 c) ∗ emp) ∗ kept (rowsOf A2) (wgtsOf A2) c
        ∗ ∃ Wd, owes (c : Thread nD τ) (0 + O₀ c) Wd) := rfl
theorem post2 (c : Dev nD) : (call2 A0 A1 A2 A3).post c
    = iprop(StableHlo.held (c : Thread nD τ) (Pipeline.arrRefs (τ := τ) spec2) (left2 A2 c) ∗ (∃ r, prngReg c r)
        ∗ (StableHlo.held (c : Thread nD τ) (others spec2) (left2 A2 c) ∗ emp) ∗ semVal (barCell c) 0
        ∗ ∃ Wd, owes (c : Thread nD τ) (0 : CellTallies nD τ sig Unit) Wd) := rfl
theorem pre3 (c : Dev nD) : (call3 A0 A1 A2 A3).pre c
    = iprop(StableHlo.held (c : Thread nD τ) (Pipeline.arrRefs (τ := τ) spec3) (A3 c) ∗ emp
        ∗ (StableHlo.held (c : Thread nD τ) (others spec3) (A3 c) ∗ semVal (barCell c) 0)
        ∗ ∃ Wd, owes (c : Thread nD τ) (0 : CellTallies nD τ sig Unit) Wd) := rfl
theorem post3 (c : Dev nD) : (call3 A0 A1 A2 A3).post c
    = iprop(StableHlo.held (c : Thread nD τ) (Pipeline.arrRefs (τ := τ) spec3) (left3 A3 c) ∗ emp
        ∗ (StableHlo.held (c : Thread nD τ) (others spec3) (A3 c) ∗ semVal (barCell c) 0)
        ∗ ∃ Wd, owes (c : Thread nD τ) (0 : CellTallies nD τ sig Unit) Wd) := rfl

/-- Into the casting call, from every unscoped buffer. -/
theorem into0 (c : Dev nD) :
    iprop(StableHlo.held (c : Thread nD τ) (Pipeline.ucRefs τ sig) (A0 c) ∗ before (rowsOf A2) (wgtsOf A2) c) ⊢ (call0 A0 A1 A2 A3).pre c := by
  rw [pre0, held_at spec0 uc0]
  unfold before aside
  iintro ⟨⟨Ha, Ho⟩, HK, Hp, HO⟩
  isplitl [Ha]; · iexact Ha
  isplitr; · iempintro
  isplitr [HO]; swap; · iexact HO
  isplitl [Ho]; · iexact Ho
  isplitl [HK] <;> iassumption

/-- Out of the casting call. -/
theorem outof0 (c : Dev nD) :
    (call0 A0 A1 A2 A3).post c ⊢ iprop(StableHlo.held (c : Thread nD τ) (Pipeline.ucRefs τ sig) (left0 A0 c) ∗ before (rowsOf A2) (wgtsOf A2) c) := by
  rw [post0, ← held_back spec0 uc0 c (A0 c) (left0 A0 c) (left0_off A0 c)]
  unfold before aside
  iintro ⟨Ha, -, ⟨Ho, HK, Hp⟩, HO⟩
  isplitl [Ha Ho]; · isplitl [Ha] <;> iassumption
  isplitl [HK]; · iexact HK
  isplitl [Hp] <;> iassumption

/-- Into the preparing call, -/
theorem into1 (c : Dev nD) :
    iprop(StableHlo.held (c : Thread nD τ) (Pipeline.ucRefs τ sig) (A1 c) ∗ before (rowsOf A2) (wgtsOf A2) c) ⊢ (call1 A0 A1 A2 A3).pre c := by
  rw [pre1, held_at spec1 uc1]
  unfold before aside
  iintro ⟨⟨Ha, Ho⟩, HK, Hp, HO⟩
  isplitl [Ha]; · iexact Ha
  isplitr; · iempintro
  isplitr [HO]; swap; · iexact HO
  isplitl [Ho]; · iexact Ho
  isplitl [HK] <;> iassumption

/-- and out of it. -/
theorem outof1 (c : Dev nD) :
    (call1 A0 A1 A2 A3).post c ⊢ iprop(StableHlo.held (c : Thread nD τ) (Pipeline.ucRefs τ sig) (left1 A1 c) ∗ before (rowsOf A2) (wgtsOf A2) c) := by
  rw [post1, ← held_back spec1 uc1 c (A1 c) (left1 A1 c) (left1_off A1 c)]
  unfold before aside
  iintro ⟨Ha, -, ⟨Ho, HK, Hp⟩, HO⟩
  isplitl [Ha Ho]; · isplitl [Ha] <;> iassumption
  isplitl [HK]; · iexact HK
  isplitl [Hp] <;> iassumption

/-- Into the exchange, -/
theorem into2 (c : Dev nD) :
    iprop(StableHlo.held (c : Thread nD τ) (Pipeline.ucRefs τ sig) (A2 c) ∗ before (rowsOf A2) (wgtsOf A2) c) ⊢ (call2 A0 A1 A2 A3).pre c := by
  rw [pre2, held_at spec2 uc2, zero_add]
  unfold before
  iintro ⟨⟨Ha, Ho⟩, HK, Hp, HO⟩
  isplitl [Ha]; · iexact Ha
  isplitl [Hp]; · iexact Hp
  isplitl [Ho]
  · isplitl [Ho]; · iexact Ho
    iempintro
  isplitl [HK] <;> iassumption

/-- and out of it. -/
theorem outof2 (c : Dev nD) :
    (call2 A0 A1 A2 A3).post c ⊢ iprop(StableHlo.held (c : Thread nD τ) (Pipeline.ucRefs τ sig) (left2 A2 c) ∗ beyond c) := by
  rw [post2, held_at spec2 uc2 c (left2 A2 c)]
  unfold beyond
  iintro ⟨Ha, -, ⟨Ho, -⟩, Hb, HO⟩
  isplitl [Ha Ho]; · isplitl [Ha] <;> iassumption
  isplitl [Hb] <;> iassumption

/-- Into the combining call, -/
theorem into3 (c : Dev nD) :
    iprop(StableHlo.held (c : Thread nD τ) (Pipeline.ucRefs τ sig) (A3 c) ∗ beyond c) ⊢ (call3 A0 A1 A2 A3).pre c := by
  rw [pre3, held_at spec3 uc3]
  unfold beyond
  iintro ⟨⟨Ha, Ho⟩, Hb, HO⟩
  isplitl [Ha]; · iexact Ha
  isplitr; · iempintro
  isplitr [HO]; swap; · iexact HO
  isplitl [Ho] <;> iassumption

/-- and out of it. -/
theorem outof3 (c : Dev nD) :
    (call3 A0 A1 A2 A3).post c ⊢ iprop(StableHlo.held (c : Thread nD τ) (Pipeline.ucRefs τ sig) (left3 A3 c) ∗ beyond c) := by
  rw [post3, ← held_back spec3 uc3 c (A3 c) (left3 A3 c) (left3_off A3 c)]
  unfold beyond
  iintro ⟨Ha, -, ⟨Ho, Hb⟩, HO⟩
  isplitl [Ha Ho]; · isplitl [Ha] <;> iassumption
  isplitl [Hb] <;> iassumption

end Ends

/-! ## The valuations along the program -/

section Along

variable (m : (ℓ : Loc nD τ sig) → Buf (Elt F) ℓ)

/-- The unscoped buffers when the casting call is entered, -/
def A11 : Vals F := fun c => V11 m c
/-- the preparing call, -/
def A12 : Vals F := left0 (A11 m)
/-- the regrouping of the prepared rows, -/
def A13 : Vals F := left1 (A12 m)
/-- the exchange, -/
def A14 : Vals F := fun c => StableHlo.after hostOps2 (A13 m c)
/-- the regrouping of the answers, -/
def A15 : Vals F := left2 (A14 m)
/-- the combining call, -/
def A16 : Vals F := fun c => StableHlo.after hostOps3 (A15 m c)
/-- and at the end. -/
def A17 : Vals F := left3 (A16 m)

/-- What each call's results hold after it. -/
def outs : Outs (F := F) := fun J r c => match J with
  | 12 => A12 m c r
  | 13 => A13 m c r
  | 15 => A15 m c r
  | _ => A17 m c r

theorem V12_eq (c : Dev nD) : V12 m (outs m) c = A12 m c := by
  show Function.update (V11 m c) main_v34 (left0 (A11 m) c main_v34) = left0 (A11 m) c
  rw [left0_main_v34]; rfl
theorem V13_eq (c : Dev nD) : V13 m (outs m) c = A13 m c := by
  show Function.update (Function.update (Function.update (V12 m (outs m) c) main_v35_0 (left1 (A12 m) c main_v35_0)) main_v35_1 (left1 (A12 m) c main_v35_1))
    main_v35_2 (left1 (A12 m) c main_v35_2) = left1 (A12 m) c
  rw [V12_eq, left1_main_v35_0, left1_main_v35_1, left1_main_v35_2]; rfl
theorem V14_eq (c : Dev nD) : V14 m (outs m) c = A14 m c := by
  show StableHlo.after hostOps2 (V13 m (outs m) c) = _
  rw [V13_eq]; rfl
theorem V15_eq (c : Dev nD) : V15 m (outs m) c = A15 m c := by
  show Function.update (Function.update (V14 m (outs m) c) main_v37_0 (left2 (A14 m) c main_v37_0)) main_v37_1 (left2 (A14 m) c main_v37_1) = left2 (A14 m) c
  rw [V14_eq, left2_main_v37_0, left2_main_v37_1]; rfl
theorem V16_eq (c : Dev nD) : V16 m (outs m) c = A16 m c := by
  show StableHlo.after hostOps3 (V15 m (outs m) c) = _
  rw [V15_eq]; rfl
theorem V17_eq (c : Dev nD) : V17 m (outs m) c = A17 m c := by
  show Function.update (V16 m (outs m) c) main_v39 (left3 (A16 m) c main_v39) = left3 (A16 m) c
  rw [V16_eq, left3_main_v39]; rfl

/-- What rides beside the unscoped buffers, from item to item. -/
def rest (k : Fin 5) (c : Dev nD) : sProp 𝕄 :=
  if k.val < 3 then before (rowsOf (A14 m)) (wgtsOf (A14 m)) c else beyond c

theorem rest_0 : rest m 0 = before (rowsOf (A14 m)) (wgtsOf (A14 m)) := funext fun _ => if_pos (by decide)
theorem rest_1 : rest m 1 = before (rowsOf (A14 m)) (wgtsOf (A14 m)) := funext fun _ => if_pos (by decide)
theorem rest_2 : rest m 2 = before (rowsOf (A14 m)) (wgtsOf (A14 m)) := funext fun _ => if_pos (by decide)
theorem rest_3 : rest m 3 = (beyond : Dev nD → sProp 𝕄) := funext fun _ => if_neg (by decide)
theorem rest_4 : rest m 4 = (beyond : Dev nD → sProp 𝕄) := funext fun _ => if_neg (by decide)

abbrev at0 := call0 (A11 m) (A12 m) (A14 m) (A16 m)
abbrev at1 := call1 (A11 m) (A12 m) (A14 m) (A16 m)
abbrev at2 := call2 (A11 m) (A12 m) (A14 m) (A16 m)
abbrev at3 := call3 (A11 m) (A12 m) (A14 m) (A16 m)

theorem hpre0 (c : Dev nD) : iprop(StableHlo.held (c : Thread nD τ) (Pipeline.ucRefs τ sig) (V11 m c) ∗ rest m 0 c) ⊢ (at0 m).pre c := by
  rw [rest_0]; exact into0 (A11 m) (A12 m) (A14 m) (A16 m) c
theorem hpost0 (c : Dev nD) : (at0 m).post c ⊢ iprop(StableHlo.held (c : Thread nD τ) (Pipeline.ucRefs τ sig) (V12 m (outs m) c) ∗ rest m 1 c) := by
  rw [rest_1, V12_eq]; exact outof0 (A11 m) (A12 m) (A14 m) (A16 m) c
theorem hpre1 (c : Dev nD) : iprop(StableHlo.held (c : Thread nD τ) (Pipeline.ucRefs τ sig) (V12 m (outs m) c) ∗ rest m 1 c) ⊢ (at1 m).pre c := by
  rw [rest_1, V12_eq]; exact into1 (A11 m) (A12 m) (A14 m) (A16 m) c
theorem hpost1 (c : Dev nD) : (at1 m).post c ⊢ iprop(StableHlo.held (c : Thread nD τ) (Pipeline.ucRefs τ sig) (V13 m (outs m) c) ∗ rest m 2 c) := by
  rw [rest_2, V13_eq]; exact outof1 (A11 m) (A12 m) (A14 m) (A16 m) c
theorem hpre2 (c : Dev nD) : iprop(StableHlo.held (c : Thread nD τ) (Pipeline.ucRefs τ sig) (V14 m (outs m) c) ∗ rest m 2 c) ⊢ (at2 m).pre c := by
  rw [rest_2, V14_eq]; exact into2 (A11 m) (A12 m) (A14 m) (A16 m) c
theorem hpost2 (c : Dev nD) : (at2 m).post c ⊢ iprop(StableHlo.held (c : Thread nD τ) (Pipeline.ucRefs τ sig) (V15 m (outs m) c) ∗ rest m 3 c) := by
  rw [rest_3, V15_eq]; exact outof2 (A11 m) (A12 m) (A14 m) (A16 m) c
theorem hpre3 (c : Dev nD) : iprop(StableHlo.held (c : Thread nD τ) (Pipeline.ucRefs τ sig) (V16 m (outs m) c) ∗ rest m 3 c) ⊢ (at3 m).pre c := by
  rw [rest_3, V16_eq]; exact into3 (A11 m) (A12 m) (A14 m) (A16 m) c
theorem hpost3 (c : Dev nD) : (at3 m).post c
    ⊢ iprop((StableHlo.held (c : Thread nD τ) (Pipeline.ucRefs τ sig) (V17 m (outs m) c) ∗ semVal (barCell c) 0)
        ∗ ∃ W, owes (c : Thread nD τ) (0 : CellTallies nD τ sig Unit) W) := by
  rw [V17_eq]
  refine (outof3 (A11 m) (A12 m) (A14 m) (A16 m) c).trans ?_
  unfold beyond A17
  iintro ⟨Hh, Hb, HO⟩
  isplitr [HO]; swap; · iexact HO
  isplitl [Hh] <;> iassumption

end Along

theorem unscoped_eq : ∀ sm : SemLoc sig, sm.isScoped .tc = false → sm = .reg barS := by decide

theorem uc_mem (r : Ref sig .tc) (h : r.isScoped = false) : Proc.devRef .tc r ∈ Pipeline.ucRefs τ sig :=
  Finset.mem_filter.mpr ⟨StableHlo.devRef_mem_tcRefs r, by simpa using h⟩

set_option maxHeartbeats 4000000 in
set_option backward.isDefEq.respectTransparency.types false in
/-- From any memory with zero counters, every weakly fair execution of the program on the four devices terminates, and every final
    state has the arguments as launched, the result at the last valuation, and every counter of the machine at zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_v39) = A17 m c main_v39) ∧ r.2.sem = fun _ => 0) := by
  refine Pipeline.θ_run_regions_kit_dev_sems (pcfgs (F := F)) adm (pdats (A11 m) (A12 m) (A14 m) (A16 m)) () cellOf_inj EP defs₀ 𝒱₀ L lv m ρ main
    (segs m (outs m) 𝒱₀ L lv (rest m) () (pdats (A11 m) (A12 m) (A14 m) (A16 m)) (at0 m) (at1 m) (at2 m) (at3 m))
    (fun c Q => by
      rewrite [main_chain c, Pipeline.Seg.run_eq_chain,
        show (segs m (outs m) 𝒱₀ L lv (rest m) () (pdats (A11 m) (A12 m) (A14 m) (A16 m)) (at0 m) (at1 m) (at2 m) (at3 m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()), Prog.lift (.customCall (Pipeline.entry 1) ()), StableHlo.seq hostOps2,
          Prog.lift (.customCall (Pipeline.entry 2) ()), StableHlo.seq hostOps3, Prog.lift (.customCall (Pipeline.entry 3) ())] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_parked]; iexact HX)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V17 m (outs m) c) ∗ semVal (barCell c) 0))
    (hch := fun c => ⟨.rfl, .rfl, .rfl, .rfl, .rfl, .rfl, .rfl, .rfl, .rfl, .rfl, .rfl, hpre0 m c, (hpost0 m c).trans (hpre1 m c), hpost1 m c, hpre2 m c,
      hpost2 m c, hpre3 m c, hpost3 m c⟩)
    (hinit := ?_)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_v39) = A17 m c main_v39) ∧ s.sem (barCell c) = 0)
    (hfin := fun c s' => ?_)
    (hQ := fun s h hs => ⟨fun c => (h c).1, sem_eq_zero hs fun c sm hsm => by
        obtain rfl := unscoped_eq sm hsm
        exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init (rowsOf (A14 m)) (wgtsOf (A14 m)) ρ) $$ [Hr Hla] with HE
    · isplitl [Hr]; · iexact Hr
      iexact Hla
    imodintro
    rw [bigSep_sep', rest_0]
    isplitl [Hh]; · iexact Hh
    iexact HE
  · unfold StableHlo.held
    iintro ⟨⟨Hh, Hb0⟩, HSI⟩
    icombine HSI Hb0 gives %hb
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact ⟨⟨(h (Proc.devRef .tc main_arg0) (uc_mem main_arg0 rfl)).trans (V17_main_arg0 m (outs m) c),
        (h (Proc.devRef .tc main_arg1) (uc_mem main_arg1 rfl)).trans (V17_main_arg1 m (outs m) c),
        (h (Proc.devRef .tc main_arg2) (uc_mem main_arg2 rfl)).trans (V17_main_arg2 m (outs m) c),
        (h (Proc.devRef .tc main_arg3) (uc_mem main_arg3 rfl)).trans (V17_main_arg3 m (outs m) c),
        (h (Proc.devRef .tc main_arg4) (uc_mem main_arg4 rfl)).trans (V17_main_arg4 m (outs m) c),
        (h (Proc.devRef .tc main_v39) (uc_mem main_v39 rfl)).trans (congrFun (V17_eq m c) _)⟩, by simpa using hb⟩
    · iexact HSI

end Cert.Proof.Moe

end
-- ==== Proof.Frames.lean ====
/-
The programs run, keep their arguments and leave every counter at zero.
-/
module

public import proofs.«01_k».proof.Defs
public import proofs.«01_k».proof.Proof.Run
public import proofs.«01_k».proof.Proof.WRun
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 16384

namespace Cert.Proof

open Idealize.ShloMosaic Idealize.ShloMosaic.TcCoe Idealize.SL.Sem

/-- The program over words. -/
theorem frame_kernel : Cert.quiescent_Kernel := fun m ρ _ =>
  (θ_run Cert.Kernel.defs _ _).mono
    (fun _ h => ⟨fun c => ⟨(h.1 c).1, (h.1 c).2.1, (h.1 c).2.2.1, (h.1 c).2.2.2.1, (h.1 c).2.2.2.2.1⟩, h.2⟩) (MoeW.run_main (F := Bits) m ρ)

/-- The program over the reals. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩) (Moe.run_main (F := Ideal) m ρ)

/-- The reference. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Pays.lean ====
/-
What the stages of the program compute over the reals, read at one element: the scatter of the tokens to their places, the
weight of the expert a token names, the products, and the gathering of a token's answer.
-/
module

public import proofs.«01_k».proof.Proof.Slots
public import Idealize.ShloMosaic.Lib.Pipeline.Value
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.Proof.Moe

open Cert.KernelIdeal Cert.KernelIdeal.Gen
open Idealize.ShloMosaic Idealize.ShloMosaic.TcCoe Idealize.ShloMosaic.ValueIdx
open scoped BigOperators

/-- One where two words are equal, zero elsewhere. -/
def ind (a b : BitVec 32) : EReal := if a = b then 1 else 0

theorem ind_eq (a b : BitVec 32) : FloatOps.sitofp (F := Ideal) .f32 ((IntOp.cmpi .eq a b).setWidth 32) = ind a b := by
  unfold ind
  by_cases h : a = b
  · subst h
    rw [if_pos rfl]
    have : ((IntOp.cmpi .eq a a).setWidth 32).toInt = 1 := by
      rw [show IntOp.cmpi .eq a a = 1#1 by simp [IntOp.cmpi]]; decide
    show (((((IntOp.cmpi .eq a a).setWidth 32).toInt : ℤ) : ℝ) : EReal) = 1
    rw [this]; norm_num
  · rw [if_neg h]
    have : ((IntOp.cmpi .eq a b).setWidth 32).toInt = 0 := by
      rw [show IntOp.cmpi .eq a b = 0#1 by simp [IntOp.cmpi, beq_eq_false_iff_ne.mpr h]]; decide
    show (((((IntOp.cmpi .eq a b).setWidth 32).toInt : ℤ) : ℝ) : EReal) = 0
    rw [this]; norm_num

/-- The weights of 32 scores: each score's exponential, over their sum. -/
def soft (s : Fin 32 → EReal) (e : Fin 32) : EReal :=
  Ideal.div (Ideal.exp (s e - (Finset.univ : Finset (Fin 32)).fold max (Ideal.ofBits .f32 0xFF800000#32) s))
    (∑ k : Fin 32, Ideal.exp (s k - (Finset.univ : Finset (Fin 32)).fold max (Ideal.ofBits .f32 0xFF800000#32) s))

/-- A plain product into zero, at an element. -/
theorem dot_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c) = ∑ k : Fin K, lhs (ix2 r k) * rhs (ix2 k c) := by
  subst hd
  refine (Ideal.matmul_plain_apply none lhs rhs _ r c).trans ?_
  show Ideal.ofBits .f32 0x00000000#32 + _ = _
  rw [Ideal.ofBits_zero_f32, zero_add]

/-- A column, one word or number a row, spread over the columns. -/
theorem spread_apply {α : Type} {M N : ℕ} (hM : M ≠ 1) (v : (⟨2, ![M, 1]⟩ : Shape).Idx → α) (h : (⟨2, ![M, 1]⟩ : Shape).Broadcasts ⟨2, ![M, N]⟩)
    (r : Fin M) (c : Fin N) : broadcastTo ⟨2, ![M, N]⟩ v h (ix2 r c) = v (ix2 r 0) :=
  broadcastTo_apply v h _ _ fun a => by
    match a with
    | ⟨0, _⟩ => show r.val = if M = 1 then 0 else r.val; rw [if_neg hM]
    | ⟨1, _⟩ => rfl

/-- A token's row in the one-hot table of the places. -/
theorem hot_apply (v : IVec S2048x1 32) (i : Fin 2048) (q : Fin 4096) :
    (truncf .bf16 (sitofp .f32 (extui 32 (cmpi .eq (iota .tc S2048x4096 32 [1] iota_S2048x4096_d1_w32)
      (broadcastTo S2048x4096 (shapeCast S2048x1 v shapeCasts_S2048x1_S2048x1) broadcasts_S2048x1_S2048x4096)) natLt_1_32) : FVec Ideal S2048x4096 .f32) bitsLt_bf16_f32
        : FVec Ideal S2048x4096 .bf16) (ix2 i q)
      = ind (BitVec.ofNat 32 q.val) (v (ix2 i 0)) := by
  show FloatOps.sitofp (F := Ideal) .f32 ((IntOp.cmpi .eq ((iota .tc S2048x4096 32 [1] iota_S2048x4096_d1_w32) (ix2 i q))
      (broadcastTo S2048x4096 (shapeCast S2048x1 v shapeCasts_S2048x1_S2048x1) broadcasts_S2048x1_S2048x4096 (ix2 i q))).setWidth 32) = _
  rw [ind_eq, spread_apply (by decide), shapeCast_self, iota_single_apply]

/-- The tokens at a place: the sum of the tokens sent there. -/
theorem k1_pay2_at (x : FVec Ideal S2048x1024 .bf16) (v : IVec S2048x1 32) (q : Fin 4096) (d : Fin 1024) :
    k1_pay2 (F := Ideal) x v (ix2 q d) = ∑ i : Fin 2048, ind (BitVec.ofNat 32 q.val) (v (ix2 i 0)) * x (ix2 i d) := by
  unfold k1_pay2 k1_pay1
  dsimp only
  rw [shapeCast_self x]
  show matmul dot_S2048x4096_S2048x1024_S4096x1024_0_0_1_1_n_n none _ x (constant S4096x1024 .f32 0x00000000#32) (ix2 q d) = _
  refine (Ideal.matmul_constant_zero_apply _ none _ _ _).trans ?_
  rw [← Equiv.sum_comp (contrEquiv1 dot_S2048x4096_S2048x1024_S4096x1024_0_0_1_1_n_n 2048 rfl rfl).symm]
  refine Finset.sum_congr rfl fun k _ => ?_
  have hk := contrEquiv1_symm_val dot_S2048x4096_S2048x1024_S4096x1024_0_0_1_1_n_n 2048 rfl rfl k
  have el : dot_S2048x4096_S2048x1024_S4096x1024_0_0_1_1_n_n.lhsIdx (ix2 q d) ((contrEquiv1 dot_S2048x4096_S2048x1024_S4096x1024_0_0_1_1_n_n 2048 rfl rfl).symm k) = ix2 k q := by
    funext a; apply Fin.ext
    match a with
    | ⟨0, _⟩ => exact hk
    | ⟨1, _⟩ => rfl
  have er : dot_S2048x4096_S2048x1024_S4096x1024_0_0_1_1_n_n.rhsIdx (ix2 q d) ((contrEquiv1 dot_S2048x4096_S2048x1024_S4096x1024_0_0_1_1_n_n 2048 rfl rfl).symm k) = ix2 k d := by
    funext a; apply Fin.ext
    match a with
    | ⟨0, _⟩ => exact hk
    | ⟨1, _⟩ => rfl
  rw [el, er, hot_apply]

/-- The scores of a token. -/
abbrev scoreK (x : FVec Ideal S2048x1024 .bf16) (w : FVec Ideal S1024x32 .bf16) (i : Fin 2048) (e : Fin 32) : EReal :=
  ∑ k : Fin 1024, x (ix2 i k) * w (ix2 k e)

/-- The sum along a row. -/
theorem rowsum_apply (y : FVec Ideal S2048x32 .f32) (i : Fin 2048) :
    shapeCast S2048x1 (multiReduction .add [1] S2048 y 0x00000000#32 reduces_S2048x32_S2048 (.inl rfl) rfl) shapeCasts_S2048_S2048x1 (ix2 i 0)
      = ∑ k : Fin 32, y (ix2 i k) := by
  rw [shapeCast_a_a1_apply]
  refine (Ideal.multiReduction_add_single y _ _ _ _ _).trans (Finset.sum_congr rfl fun k _ => congrArg y ?_)
  funext a; match a with | ⟨0, _⟩ => rfl | ⟨1, _⟩ => rfl

/-- The greatest along a row. -/
theorem rowmax_apply (y : FVec Ideal S2048x32 .f32) (i : Fin 2048) :
    shapeCast S2048x1 (multiReduction .maximumf [1] S2048 y 0xFF800000#32 reduces_S2048x32_S2048 (.inl rfl) rfl) shapeCasts_S2048_S2048x1 (ix2 i 0)
      = (Finset.univ : Finset (Fin 32)).fold max (Ideal.ofBits .f32 0xFF800000#32) (fun k => y (ix2 i k)) := by
  rw [shapeCast_a_a1_apply]
  refine (Ideal.multiReduction_maximumf_single y _ _ _ _ _).trans (congrArg (fun f => (Finset.univ : Finset (Fin 32)).fold max (Ideal.ofBits .f32 0xFF800000#32) f) (funext fun k => congrArg y ?_))
  funext a; match a with | ⟨0, _⟩ => rfl | ⟨1, _⟩ => rfl

/-- The weight of the expert a token names. -/
theorem k1_pay3_at (x : FVec Ideal S2048x1024 .bf16) (w : FVec Ideal S1024x32 .bf16) (v : IVec S2048x1 32) (i : Fin 2048) :
    k1_pay3 (F := Ideal) x w v (ix2 i 0) = ∑ k : Fin 32, soft (scoreK x w i) k * ind (BitVec.ofNat 32 k.val) (v (ix2 i 0)) := by
  unfold k1_pay3
  dsimp only
  rw [shapeCast_self x, shapeCast_self w, rowsum_apply]
  refine Finset.sum_congr rfl fun k _ => ?_
  have hs : ∀ e : Fin 32, matmul dot_S2048x1024_S1024x32_S2048x32_1_0_0_1_n_n none x w (constant S2048x32 .f32 0x00000000#32) (ix2 i e) = scoreK x w i e :=
    fun e => dot_apply _ rfl x w i e
  generalize matmul dot_S2048x1024_S1024x32_S2048x32_1_0_0_1_n_n none x w (constant S2048x32 .f32 0x00000000#32) = y at hs ⊢
  show Ideal.div (Ideal.exp (y (ix2 i k) - broadcastTo S2048x32 (shapeCast S2048x1 (multiReduction .maximumf [1] S2048 y 0xFF800000#32 reduces_S2048x32_S2048 (.inl rfl) rfl) shapeCasts_S2048_S2048x1) broadcasts_S2048x1_S2048x32 (ix2 i k)))
      (broadcastTo S2048x32 _ broadcasts_S2048x1_S2048x32 (ix2 i k)) * FloatOps.sitofp (F := Ideal) .f32 ((IntOp.cmpi .eq ((iota .tc S2048x32 32 [1] iota_S2048x32_d1_w32) (ix2 i k))
      (broadcastTo S2048x32 (shapeCast S2048x1 v shapeCasts_S2048x1_S2048x1) broadcasts_S2048x1_S2048x32 (ix2 i k))).setWidth 32) = _
  rw [ind_eq, spread_apply (by decide), spread_apply (by decide), spread_apply (by decide), shapeCast_self, iota_single_apply, rowmax_apply, rowsum_apply]
  refine congrArg₂ (· * ·) ?_ rfl
  unfold soft
  rw [show scoreK x w i = fun e => y (ix2 i e) from funext fun e => (hs e).symm]
  refine congrArg₂ Ideal.div rfl (Finset.sum_congr rfl fun k' _ => ?_)
  show Ideal.exp (y (ix2 i k') - broadcastTo S2048x32 _ broadcasts_S2048x1_S2048x32 (ix2 i k')) = _
  rw [spread_apply (by decide), rowmax_apply]

/-- The product every token takes part in. -/
theorem k2_pay1_at (x : FVec Ideal S2048x1024 .bf16) (w : FVec Ideal S1024x1024 .bf16) (i : Fin 2048) (d : Fin 1024) :
    k2_pay1 (F := Ideal) x w (ix2 i d) = ∑ k : Fin 1024, x (ix2 i k) * w (ix2 k d) := by
  unfold k2_pay1
  rw [shapeCast_self x, shapeCast_self w]
  exact dot_apply _ rfl x w i d

/-- A token's answer: the shared product, and the weight times what stands at the token's place. -/
theorem k3_pay1_at (v : IVec S2048x1 32) (y : FVec Ideal S4096x1024 .bf16) (s : FVec Ideal S2048x1024 .f32) (p : FVec Ideal S2048x1 .f32)
    (i : Fin 2048) (d : Fin 1024) :
    k3_pay1 (F := Ideal) v y s p (ix2 i d)
      = s (ix2 i d) + p (ix2 i 0) * ∑ q : Fin 4096, ind (BitVec.ofNat 32 q.val) (v (ix2 i 0)) * y (ix2 q d) := by
  unfold k3_pay1
  dsimp only
  rw [shapeCast_self y, shapeCast_self s, shapeCast_self p]
  show s (ix2 i d) + broadcastTo S2048x1024 p broadcasts_S2048x1_S2048x1024 (ix2 i d) * matmul dot_S2048x4096_S4096x1024_S2048x1024_1_0_0_1_n_n none _ y (constant S2048x1024 .f32 0x00000000#32) (ix2 i d) = _
  rw [spread_apply (by decide)]
  refine congrArg (fun z => s (ix2 i d) + p (ix2 i 0) * z) ((dot_apply _ rfl _ y i d).trans (Finset.sum_congr rfl fun q _ => ?_))
  rw [hot_apply]

/-- An element of a tile, times the tile's expert's weights. -/
theorem mm_at (D : CB Ideal) (w : S8x1024x1024.Idx → Elt Ideal .bf16) (j : Fin 4) (k : Fin 8) (r : Fin 128) (d : Fin 1024) :
    mm (F := Ideal) D w (ix4 j k r d) = ∑ f : Fin 1024, D (ix4 j k r f) * w (ix3 k f d) := by
  show k2_pay2 (F := Ideal) (fun x => D ((tileR j k).idx x)) (fun x => w ((wgtR k).idx x)) (ix4 0 0 r d) = _
  unfold k2_pay2
  rw [shapeCast_apply _ shapeCasts_S128x1024_S1x1x128x1024 _ (ix2 r d) (by
    rw [Shape.rowMajor_val_two, Shape.rowMajor_val_four]; show r.val * 1024 + d.val = ((0 * 1 + 0) * 128 + r.val) * 1024 + d.val; omega)]
  show matmul (φ₁ := .bf16) (φ₂ := .bf16) (F := Ideal) dot_S128x1024_S1024x1024_S128x1024_1_0_0_1_n_n none _ _ (constant S128x1024 .f32 0x00000000#32) (ix2 r d) = _
  refine (dot_apply _ rfl _ _ r d).trans (Finset.sum_congr rfl fun f _ => ?_)
  rw [shapeCast_apply _ shapeCasts_S1x1x128x1024_S128x1024 (ix2 r f) (ix4 0 0 r f) (by
      rw [Shape.rowMajor_val_two, Shape.rowMajor_val_four]; show ((0 * 1 + 0) * 128 + r.val) * 1024 + f.val = r.val * 1024 + f.val; omega),
    shapeCast_apply _ shapeCasts_S1x1024x1024_S1024x1024 (ix2 f d) (ix3 0 f d) (by
      rw [Shape.rowMajor_val_two, Shape.rowMajor_val_three]; show (0 * 1024 + f.val) * 1024 + d.val = f.val * 1024 + d.val; omega)]
  refine congrArg₂ (· * ·) (congrArg D ?_) (congrArg w ?_)
  · funext a; apply Fin.ext
    match a with
    | ⟨0, _⟩ => show j.val + 1 * 0 = j.val; omega
    | ⟨1, _⟩ => show k.val + 1 * 0 = k.val; omega
    | ⟨2, _⟩ => show 0 + 1 * r.val = r.val; omega
    | ⟨3, _⟩ => show 0 + 1 * f.val = f.val; omega
  · funext a; apply Fin.ext
    match a with
    | ⟨0, _⟩ => show k.val + 1 * 0 = k.val; omega
    | ⟨1, _⟩ => show 0 + 1 * f.val = f.val; omega
    | ⟨2, _⟩ => show 0 + 1 * d.val = d.val; omega

end Cert.Proof.Moe

end
-- ==== Proof.Host.lean ====
/-
What the program's first lines leave: each token's place, read line by line from the words of the experts.
-/
module

public import proofs.«01_k».proof.Proof.Pays
public import proofs.«01_k».proof.Proof.Gen.KernelIdeal.Launch
public import proofs.«01_k».proof.Proof.Gen.KernelIdeal.Regions
public import Idealize.ShloMosaic.Lib.StableHlo.Run
public import Idealize.ShloMosaic.Lib.StableHlo.RunRead

@[expose] public section

set_option maxRecDepth 16384

noncomputable section

namespace Cert.Proof.Moe

open Cert.KernelIdeal Cert.KernelIdeal.Gen
open Idealize.ShloMosaic Idealize.ShloMosaic.TcCoe Idealize.ShloMosaic.ValueIdx
open scoped BigOperators

/-- The sign of a word. -/
def signW (x : BitVec 32) : BitVec 32 := if x = 0 then 0 else if x.msb then -1 else 1

/-- The quotient of two words rounded down, as the program computes it. -/
def floorW (x y : BitVec 32) : BitVec 32 :=
  if IntOp.andi (IntOp.cmpi .ne (signW x) (signW y))
      (IntOp.cmpi .ne (IntOp.remsi .host x y) 0#32) = 1 then IntOp.subi (IntOp.divsi .host x y) 1#32 else IntOp.divsi .host x y

/-- The divisor the program's remainder uses: one for zero. -/
def dvsW (y : BitVec 32) : BitVec 32 := if IntOp.cmpi .eq y 0#32 = 1 then 1#32 else y

/-- The remainder of two words with the divisor's sign, as the program computes it. -/
def remW (x y : BitVec 32) : BitVec 32 :=
  if IntOp.andi (IntOp.cmpi .ne (IntOp.cmpi .slt (IntOp.remsi .host x (dvsW y)) 0#32) (IntOp.cmpi .slt (dvsW y) 0#32))
      (IntOp.cmpi .ne (IntOp.remsi .host x (dvsW y)) 0#32) = 1 then IntOp.addi (IntOp.remsi .host x (dvsW y)) (dvsW y) else IntOp.remsi .host x (dvsW y)

variable (V : Valuation τ sig (Elt Ideal))

/-- The expert words in one row. -/
theorem s0_v5 (c : Dev nD) (i : Fin 2048) :
    StableHlo.after (hostOps0 c) V (main_v5 : DevRef τ sig) (ix1 i) = V (main_arg2 : DevRef τ sig) (ix2 i 0) := by
  after_results_simp
  exact shapeCast_apply _ shapeCasts_S2048x1_S2048 (ix1 i) (ix2 i 0) (by
    rw [Shape.rowMajor_val_two, Shape.rowMajor_val_one]; show i.val * 1 + 0 = i.val; omega)

/-- The device's place on the ring. -/
theorem s0_v4 (c : Dev nD) (j : S_.Idx) :
    StableHlo.after (hostOps0 c) V (main_v4 : DevRef τ sig) j = IntOp.remui .host (IntOp.divui .host (Dev.word c) 1#32) 4#32 := by
  after_results_simp
  rfl

/-- The table of who names which expert. -/
theorem s0_v12 (c : Dev nD) (i : Fin 2048) (e : Fin 32) :
    StableHlo.after (hostOps0 c) V (main_v12 : DevRef τ sig) (ix2 i e)
      = FloatOps.uitofp (F := Ideal) .f32 (IntOp.cmpi .eq (V (main_arg2 : DevRef τ sig) (ix2 i 0)) (BitVec.ofNat 32 e.val)) := by
  after_results_simp
  refine congrArg (FloatOps.uitofp (F := Ideal) .f32) (congrArg₂ (IntOp.cmpi .eq) ?_ ?_)
  · refine (broadcastInDim_apply _ bcast_S2048x1_S2048x32_0_1 _ (ix2 i e) (ix2 i 0) fun a => ?_).trans ?_
    · match a with | ⟨0, _⟩ => rfl | ⟨1, _⟩ => rfl
    refine (broadcastInDim_apply _ bcast_S2048_S2048x1_0 _ (ix2 i 0) (ix1 i) fun a => ?_).trans ?_
    · match a with | ⟨0, _⟩ => rfl
    exact shapeCast_apply _ shapeCasts_S2048x1_S2048 (ix1 i) (ix2 i 0) (by
      rw [Shape.rowMajor_val_two, Shape.rowMajor_val_one]; show i.val * 1 + 0 = i.val; omega)
  · refine (broadcastInDim_apply _ bcast_S1x32_S2048x32_0_1 _ (ix2 i e) (ix2 0 e) fun a => ?_).trans ?_
    · match a with | ⟨0, _⟩ => rfl | ⟨1, _⟩ => rfl
    refine (broadcastInDim_apply _ bcast_S32_S1x32_1 _ (ix2 0 e) (ix1 e) fun a => ?_).trans ?_
    · match a with | ⟨0, _⟩ => rfl
    rfl

/-- The counts down the table. -/
theorem s1_v13 :
    StableHlo.after hostOps0_1 V (main_v13 : DevRef τ sig)
      = Host.reduceWindowAdd (F := Ideal) ![2048, 1] ![1, 1] ![2047, 0] ![0, 0] (V (main_v12 : DevRef τ sig))
          (broadcastInDim S_ ![] bcast_S_S_ (constant (F := Ideal) S_ .f32 0x00000000#32)) reduceWindows_S2048x32_S2048x32_w2048s1p2047_0_w1s1p0_0 h_S_ := by
  after_results_simp
  rfl

/-- The rank of each token among those that name its expert. -/
theorem s2_v18 :
    StableHlo.after hostOps0_2 V (main_v18 : DevRef τ sig)
      = fptosi (F := Ideal) 32 (Host.reduceAdd (F := Ideal) (mulf (V (main_v12 : DevRef τ sig) : FVec Ideal S2048x32 .f32)
          (subf (V (main_v13 : DevRef τ sig) : FVec Ideal S2048x32 .f32) (broadcastInDim S2048x32 ![] bcast_S_S2048x32 (constant (F := Ideal) S_ .f32 0x3F800000#32))))
          (constant (F := Ideal) S_ .f32 0x00000000#32) reducesTo_S2048x32_S2048_d1 h_S_) := by
  after_results_simp
theorem s2_c_2 : StableHlo.after hostOps0_2 V (main_c_2 : DevRef τ sig) = constantI S_ 32 8#32 := by
  after_results_simp

/-- Each expert's device. -/
theorem s3_v19 (i : Fin 2048) (hc : (V (main_c_2 : DevRef τ sig) : IVec S_ 32) = constantI S_ 32 8#32) :
    StableHlo.after hostOps0_3 V (main_v19 : DevRef τ sig) (ix1 i) = floorW (V (main_v5 : DevRef τ sig) (ix1 i)) 8#32 := by
  after_results_simp
  rw [hc]
  simp -implicitDefEqProofs only [StableHlo.TRef.toBuf, StableHlo.TRef.ofBuf, cast_cast, cast_eq]
  rfl

/-- That device, counted from this one. -/
theorem s4_v21 (i : Fin 2048) (w : BitVec 32) (hc : (V (main_v4 : DevRef τ sig) : IVec S_ 32) = fun _ => w) :
    StableHlo.after hostOps0_4 V (main_v21 : DevRef τ sig) (ix1 i)
      = IntOp.subi (V (main_v19 : DevRef τ sig) (ix1 i)) w := by
  after_results_simp
  rw [hc]; rfl
theorem s4_c_3 : StableHlo.after hostOps0_4 V (main_c_3 : DevRef τ sig) = constantI S_ 32 4#32 := by
  after_results_simp

/-- How far round the ring the expert's device is. -/
theorem s5_v22 (i : Fin 2048) (hc : (V (main_c_3 : DevRef τ sig) : IVec S_ 32) = constantI S_ 32 4#32) :
    StableHlo.after hostOps0_5 V (main_v22 : DevRef τ sig) (ix1 i) = remW (V (main_v21 : DevRef τ sig) (ix1 i)) 4#32 := by
  after_results_simp
  rw [hc]
  simp -implicitDefEqProofs only [StableHlo.TRef.toBuf, StableHlo.TRef.ofBuf, cast_cast, cast_eq]
  rfl

theorem s6_v24 (i : Fin 2048) :
    StableHlo.after hostOps0_6 V (main_v24 : DevRef τ sig) (ix1 i) = IntOp.muli (V (main_v22 : DevRef τ sig) (ix1 i)) 1024#32 := by
  after_results_simp
  rfl
theorem s6_c_5 : StableHlo.after hostOps0_6 V (main_c_5 : DevRef τ sig) = constantI S_ 32 8#32 := by
  after_results_simp

/-- The expert's place on its device. -/
theorem s7_v25 (i : Fin 2048) (hc : (V (main_c_5 : DevRef τ sig) : IVec S_ 32) = constantI S_ 32 8#32) :
    StableHlo.after hostOps0_7 V (main_v25 : DevRef τ sig) (ix1 i) = remW (V (main_v5 : DevRef τ sig) (ix1 i)) 8#32 := by
  after_results_simp
  rw [hc]
  simp -implicitDefEqProofs only [StableHlo.TRef.toBuf, StableHlo.TRef.ofBuf, cast_cast, cast_eq]
  rfl

theorem s8_v29 (i : Fin 2048) :
    StableHlo.after hostOps0_8 V (main_v29 : DevRef τ sig) (ix1 i)
      = IntOp.addi (IntOp.addi (V (main_v24 : DevRef τ sig) (ix1 i)) (IntOp.muli (V (main_v25 : DevRef τ sig) (ix1 i)) 128#32)) (V (main_v18 : DevRef τ sig) (ix1 i)) := by
  after_results_simp
  rfl
theorem s8_v31 (i : Fin 2048) :
    StableHlo.after hostOps0_8 V (main_v31 : DevRef τ sig) (ix1 i) = IntOp.cmpi .slt (V (main_v18 : DevRef τ sig) (ix1 i)) 128#32 := by
  after_results_simp
  rfl

/-- The place, where the rank fits. -/
theorem s9_v32 (i : Fin 2048) (h : V (main_v31 : DevRef τ sig) (ix1 i) = 1#1) :
    StableHlo.after hostOps0_9 V (main_v32 : DevRef τ sig) (ix1 i) = V (main_v29 : DevRef τ sig) (ix1 i) := by
  after_results_simp
  exact if_pos h

theorem s10_v33 (i : Fin 2048) :
    StableHlo.after hostOps0_10 V (main_v33 : DevRef τ sig) (ix2 i 0) = V (main_v32 : DevRef τ sig) (ix1 i) := by
  after_results_simp
  refine broadcastInDim_apply _ _ _ _ (ix1 i) fun a => ?_
  match a with
  | ⟨0, _⟩ => rfl

end Cert.Proof.Moe

end
-- ==== Proof.Rank.lean ====
/-
A token's rank among those that name its expert, and the place it is given: counted, and as the program computes both.
-/
module

public import proofs.«01_k».proof.Proof.Host
public import Idealize.ShloMosaic.Lib.Routing.Words

@[expose] public section

set_option maxRecDepth 16384

noncomputable section

namespace Cert.Proof.Moe

open Cert.KernelIdeal Cert.KernelIdeal.Gen
open Idealize.ShloMosaic Idealize.ShloMosaic.TcCoe Idealize.ShloMosaic.ValueIdx
open scoped BigOperators

/-- A running sum from a start is the start plus the sum. -/
theorem foldl_add {n : ℕ} (g : Fin n → EReal) (a : EReal) : (List.finRange n).foldl (fun r k => r + g k) a = a + ∑ k, g k := by
  have h : ∀ (l : List (Fin n)) (a : EReal), l.foldl (fun r k => r + g k) a = a + (l.map g).sum := by
    intro l
    induction l with
    | nil => intro a; simp
    | cons k l ih => intro a; rw [List.foldl_cons, ih, List.map_cons, List.sum_cons, add_assoc]
  rw [h, Fin.sum_univ_def]

/-- A column's positions. -/
theorem numel_col (N : ℕ) : (⟨2, ![N, 1]⟩ : Shape).numel = N := by
  show ∏ a : Fin 2, (![N, 1] : Fin 2 → ℕ) a = N
  rw [Fin.prod_univ_two]
  exact Nat.mul_one N

/-- A column's position is its row. -/
theorem symm_col {N : ℕ} (n : Fin N) : (⟨2, ![N, 1]⟩ : Shape).rowMajor.symm (n.cast (numel_col N).symm) = ix2 n (0 : Fin 1) :=
  ((⟨2, ![N, 1]⟩ : Shape).rowMajor.symm_apply_eq).2 (Fin.ext (by
    rw [Shape.rowMajor_val_two]; show n.val = n.val * 1 + 0; omega))

/-- The sums down a table, at an element: the column's elements up to the row. -/
theorem cums {N n1 M : ℕ} (hN : n1 + 1 = N) (x : (⟨2, ![N, M]⟩ : Shape).Idx → EReal)
    (h : (⟨2, ![N, M]⟩ : Shape).ReduceWindows (![N, 1] : Fin 2 → ℕ) ![1, 1] ![n1, 0] ![0, 0] ⟨2, ![N, M]⟩) (i : Fin N) (e : Fin M) :
    Ideal.hostReduceWindowAdd (s := ⟨2, ![N, M]⟩) ![N, 1] ![1, 1] ![n1, 0] ![0, 0] h x 0 (ix2 i e) = ∑ j : Fin N, if j ≤ i then x (ix2 j e) else 0 := by
  unfold Ideal.hostReduceWindowAdd Host.reduceWindow
  refine (foldl_add _ _).trans ((zero_add _).trans ?_)
  refine (Equiv.sum_comp (finCongr (numel_col N).symm) _).symm.trans ?_
  have hi := i.isLt
  have rest : (∑ n : Fin N, if h : n1 ≤ i.val + n.val then x (ix2 ⟨i.val + n.val - n1, by have := n.isLt; omega⟩ e) else 0)
      = ∑ j : Fin N, if j ≤ i then x (ix2 j e) else 0 := by
    rw [Finset.sum_dite, Finset.sum_const_zero, add_zero, ← Finset.sum_filter]
    refine Finset.sum_bij' (fun n _ => (⟨i.val + n.1.val - n1, by have := n.1.isLt; omega⟩ : Fin N))
      (fun j hj => ⟨(⟨j.val + n1 - i.val, by have := (Finset.mem_filter.mp hj).2; have : j.val ≤ i.val := this; omega⟩ : Fin N), Finset.mem_filter.mpr ⟨Finset.mem_univ _, by
        have := (Finset.mem_filter.mp hj).2; have : j.val ≤ i.val := this
        show n1 ≤ i.val + (j.val + n1 - i.val); omega⟩⟩) ?_ ?_ ?_ ?_ ?_
    · intro n _
      refine Finset.mem_filter.mpr ⟨Finset.mem_univ _, ?_⟩
      show i.val + n.1.val - n1 ≤ i.val
      have := n.1.isLt; omega
    · intro j hj; exact Finset.mem_attach _ _
    · intro n _
      have h1 : n1 ≤ i.val + n.1.val := (Finset.mem_filter.mp n.2).2
      apply Subtype.ext; apply Fin.ext
      show i.val + n.1.val - n1 + n1 - i.val = n.1.val
      omega
    · intro j hj
      have h1 : j.val ≤ i.val := (Finset.mem_filter.mp hj).2
      apply Fin.ext
      show i.val + (j.val + n1 - i.val) - n1 = j.val
      omega
    · intro n _; rfl
  refine (Finset.sum_congr rfl fun n _ => ?_).trans rest
  have hs : (⟨2, ![N, 1]⟩ : Shape).rowMajor.symm (finCongr (numel_col N).symm n) = ix2 n (0 : Fin 1) := symm_col n
  have hn := n.isLt
  have he := e.isLt
  dsimp only
  by_cases hc : n1 ≤ i.val + n.val
  · rw [dif_pos hc, dif_pos (fun a => by
      match a with
      | ⟨0, _⟩ =>
        show n1 ≤ i.val * 1 + ((⟨2, ![N, 1]⟩ : Shape).rowMajor.symm (finCongr (numel_col N).symm n) 0).val ∧ i.val * 1 + ((⟨2, ![N, 1]⟩ : Shape).rowMajor.symm (finCongr (numel_col N).symm n) 0).val - n1 < N
        rw [hs]; show n1 ≤ i.val * 1 + n.val ∧ i.val * 1 + n.val - n1 < N; omega
      | ⟨1, _⟩ =>
        show 0 ≤ e.val * 1 + ((⟨2, ![N, 1]⟩ : Shape).rowMajor.symm (finCongr (numel_col N).symm n) 1).val ∧ e.val * 1 + ((⟨2, ![N, 1]⟩ : Shape).rowMajor.symm (finCongr (numel_col N).symm n) 1).val - 0 < M
        rw [hs]; show 0 ≤ e.val * 1 + 0 ∧ e.val * 1 + 0 - 0 < M; omega)]
    refine congrArg x (funext fun a => Fin.ext ?_)
    match a with
    | ⟨0, _⟩ =>
      show i.val * 1 + ((⟨2, ![N, 1]⟩ : Shape).rowMajor.symm (finCongr (numel_col N).symm n) 0).val - n1 = i.val + n.val - n1
      rw [hs]; show i.val * 1 + n.val - n1 = i.val + n.val - n1; omega
    | ⟨1, _⟩ =>
      show e.val * 1 + ((⟨2, ![N, 1]⟩ : Shape).rowMajor.symm (finCongr (numel_col N).symm n) 1).val - 0 = e.val
      rw [hs]; show e.val * 1 + 0 - 0 = e.val; omega
  · rw [dif_neg hc, dif_neg (fun hin => hc (by
      have h0 : n1 ≤ i.val * 1 + ((⟨2, ![N, 1]⟩ : Shape).rowMajor.symm (finCongr (numel_col N).symm n) 0).val := (hin 0).1
      rw [hs] at h0
      have h1 : n1 ≤ i.val * 1 + n.val := h0
      omega))]

variable (E : Fin 2048 → BitVec 32)

/-- How many tokens before a token name its expert. -/
def rank (i : Fin 2048) : ℕ := (Finset.univ.filter fun j : Fin 2048 => j < i ∧ E j = E i).card

/-- How many tokens name an expert. -/
def total (w : BitVec 32) : ℕ := (Finset.univ.filter fun j : Fin 2048 => E j = w).card

/-- A token's rank stays under the number that name its expert. -/
theorem rank_lt (i : Fin 2048) : rank E i < total E (E i) := by
  refine Finset.card_lt_card ⟨fun j hj => ?_, fun hs => ?_⟩
  · exact Finset.mem_filter.mpr ⟨Finset.mem_univ _, (Finset.mem_filter.mp hj).2.2⟩
  · have := hs (Finset.mem_filter.mpr ⟨Finset.mem_univ i, rfl⟩)
    exact lt_irrefl _ (Finset.mem_filter.mp this).2.1

/-- Two tokens of one expert and of one rank are one token. -/
theorem rank_inj {i j : Fin 2048} (hE : E i = E j) (hr : rank E i = rank E j) : i = j := by
  have key : ∀ {a b : Fin 2048}, E a = E b → a < b → rank E a < rank E b := by
    intro a b hab hlt
    refine Finset.card_lt_card ⟨fun k hk => ?_, fun hs => ?_⟩
    · have := (Finset.mem_filter.mp hk).2
      exact Finset.mem_filter.mpr ⟨Finset.mem_univ _, lt_trans this.1 hlt, this.2.trans hab⟩
    · have := hs (Finset.mem_filter.mpr ⟨Finset.mem_univ a, hlt, hab⟩)
      exact lt_irrefl _ (Finset.mem_filter.mp this).2.1
  rcases lt_trichotomy i j with h | h | h
  · exact absurd hr (key hE h).ne
  · exact h
  · exact absurd hr.symm (key hE.symm h).ne

/-- A sum of ones and zeros is a count. -/
theorem sum_ones {ι : Type} [DecidableEq ι] (s : Finset ι) (p : ι → Prop) [DecidablePred p] :
    (∑ j ∈ s, if p j then (1 : EReal) else 0) = (((s.filter p).card : ℝ) : EReal) := by
  rw [Finset.sum_ite, Finset.sum_const_zero, add_zero, Finset.sum_const, nsmul_one]
  rfl

/-- A bit as a number. -/
theorem bit_eq (a b : BitVec 32) : FloatOps.uitofp (F := Ideal) .f32 (IntOp.cmpi .eq a b) = ind a b := by
  unfold ind
  by_cases h : a = b
  · subst h
    rw [if_pos rfl, show IntOp.cmpi .eq a a = 1#1 by simp [IntOp.cmpi]]
    show ((((1#1 : BitVec 1).toNat : ℝ)) : EReal) = 1
    norm_num
  · rw [if_neg h, show IntOp.cmpi .eq a b = 0#1 by simp [IntOp.cmpi, beq_eq_false_iff_ne.mpr h]]
    show ((((0#1 : BitVec 1).toNat : ℝ)) : EReal) = 0
    norm_num

/-- A small count, as a word. -/
theorem fptosi_nat (n : ℕ) (h : n < 2 ^ 31) : FloatOps.fptosi (F := Ideal) (φ := .f32) 32 (((n : ℝ)) : EReal) = BitVec.ofNat 32 n := by
  show Ideal.fptosi 32 (((n : ℝ)) : EReal) = _
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num
    omega
  rw [this]
  rfl

end Cert.Proof.Moe

end
-- ==== Proof.Place.lean ====
/-
The place the program gives a token: the expert's device counted from this one, the expert's row there, the token's rank.
-/
module

public import proofs.«01_k».proof.Proof.Rank
public import Idealize.ShloMosaic.Lib.IdealHost

@[expose] public section

set_option maxRecDepth 16384

noncomputable section

namespace Cert.Proof.Moe

open Cert.KernelIdeal Cert.KernelIdeal.Gen
open Idealize.ShloMosaic Idealize.ShloMosaic.TcCoe Idealize.ShloMosaic.ValueIdx
open scoped BigOperators

/-- The device's place on the ring, as the program computes it. -/
def ringW (c : Fin 4) : BitVec 32 := IntOp.remui .host (IntOp.divui .host (BitVec.ofNat 32 c.val) 1#32) 4#32

/-- The way round the ring to an expert's device. -/
theorem rot_eq : ∀ (e : Fin 32) (c : Fin 4),
    remW (IntOp.subi (floorW (BitVec.ofNat 32 e.val) 8#32) (ringW c)) 4#32 = BitVec.ofNat 32 ((e.val / 8 + 4 - c.val) % 4) := by decide

/-- The expert's row on its device. -/
theorem row_eq : ∀ e : Fin 32, remW (BitVec.ofNat 32 e.val) 8#32 = BitVec.ofNat 32 (e.val % 8) := by decide

/-- A rank that fits. -/
theorem fits : ∀ r : Fin 128, IntOp.cmpi .slt (BitVec.ofNat 32 r.val) 128#32 = 1#1 := by decide

/-- Words of experts differ as the experts do. -/
theorem word_inj {n a b : ℕ} (hn : n ≤ 4096) (ha : a < n) (hb : b < n) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- The tokens up to a token that name its expert are those before it and itself. -/
theorem upto_card (E : Fin 2048 → BitVec 32) (i : Fin 2048) :
    (Finset.univ.filter fun j : Fin 2048 => j ≤ i ∧ E j = E i).card = rank E i + 1 := by
  have : (Finset.univ.filter fun j : Fin 2048 => j ≤ i ∧ E j = E i) = insert i (Finset.univ.filter fun j : Fin 2048 => j < i ∧ E j = E i) := by
    ext j
    rw [Finset.mem_insert, Finset.mem_filter, Finset.mem_filter]
    constructor
    · rintro ⟨-, h, hE⟩
      rcases eq_or_lt_of_le h with h | h
      · exact Or.inl h
      · exact Or.inr ⟨Finset.mem_univ _, h, hE⟩
    · rintro (h | ⟨-, h, hE⟩)
      · subst h; exact ⟨Finset.mem_univ _, le_refl _, rfl⟩
      · exact ⟨Finset.mem_univ _, h.le, hE⟩
  rw [this, Finset.card_insert_of_notMem (fun h => lt_irrefl _ (Finset.mem_filter.mp h).2.1)]
  rfl

/-- The host's sum along a row. -/
theorem hostrow (x : FVec Ideal S2048x32 .f32) (i : Fin 2048) :
    Host.reduceAdd (F := Ideal) x (constant (F := Ideal) S_ .f32 0x00000000#32) reducesTo_S2048x32_S2048_d1 h_S_ (ix1 i) = ∑ k : Fin 32, x (ix2 i k) := by
  show Ideal.hostReduceAdd reducesTo_S2048x32_S2048_d1 x (Ideal.ofBits .f32 0x00000000#32) (ix1 i) = _
  rw [Ideal.hostReduceAdd_single reducesTo_S2048x32_S2048_d1 reduces_S2048x32_S2048, Ideal.ofBits_zero_f32, zero_add]
  refine Finset.sum_congr rfl fun k _ => congrArg x ?_
  funext a; match a with | ⟨0, _⟩ => rfl | ⟨1, _⟩ => rfl

/-- The host's sums down the table. -/
theorem hostdown (T : FVec Ideal S2048x32 .f32) (i : Fin 2048) (e : Fin 32) :
    Host.reduceWindowAdd (F := Ideal) ![2048, 1] ![1, 1] ![2047, 0] ![0, 0] T
          (broadcastInDim S_ ![] bcast_S_S_ (constant (F := Ideal) S_ .f32 0x00000000#32)) reduceWindows_S2048x32_S2048x32_w2048s1p2047_0_w1s1p0_0 h_S_ (ix2 i e)
      = ∑ j : Fin 2048, if j ≤ i then T (ix2 j e) else 0 := by
  unfold Host.reduceWindowAdd
  rw [Ideal.hostReduceWindowAdd_def, show (broadcastInDim S_ ![] bcast_S_S_ (constant (F := Ideal) S_ .f32 0x00000000#32)) (Shape.Idx.first h_S_) = (0 : EReal) from Ideal.ofBits_zero_f32]
  exact cums (N := 2048) (n1 := 2047) (M := 32) rfl T reduceWindows_S2048x32_S2048x32_w2048s1p2047_0_w1s1p0_0 i e

/-- The rank, as the program computes it from its table and the table's sums. -/
theorem rank_word (E : Fin 2048 → BitVec 32) (he : ∀ i, ∃ e : Fin 32, E i = BitVec.ofNat 32 e.val)
    (T C : FVec Ideal S2048x32 .f32) (hT : ∀ i e, T (ix2 i e) = ind (E i) (BitVec.ofNat 32 e.val))
    (hC : C = Host.reduceWindowAdd (F := Ideal) ![2048, 1] ![1, 1] ![2047, 0] ![0, 0] T
          (broadcastInDim S_ ![] bcast_S_S_ (constant (F := Ideal) S_ .f32 0x00000000#32)) reduceWindows_S2048x32_S2048x32_w2048s1p2047_0_w1s1p0_0 h_S_) (i : Fin 2048) :
    fptosi (F := Ideal) 32 (Host.reduceAdd (F := Ideal) (mulf T (subf C (broadcastInDim S2048x32 ![] bcast_S_S2048x32 (constant (F := Ideal) S_ .f32 0x3F800000#32))))
          (constant (F := Ideal) S_ .f32 0x00000000#32) reducesTo_S2048x32_S2048_d1 h_S_) (ix1 i) = BitVec.ofNat 32 (rank E i) := by
  have hsum : ∀ e : Fin 32, C (ix2 i e) = (((Finset.univ.filter fun j : Fin 2048 => j ≤ i ∧ E j = BitVec.ofNat 32 e.val).card : ℝ) : EReal) := by
    intro e
    rw [hC, hostdown]
    rw [← sum_ones]
    refine Finset.sum_congr rfl fun j _ => ?_
    rw [hT]
    unfold ind
    by_cases h : j ≤ i
    · by_cases h' : E j = BitVec.ofNat 32 e.val
      · rw [if_pos h, if_pos h', if_pos ⟨h, h'⟩]
      · rw [if_pos h, if_neg h', if_neg fun q => h' q.2]
    · rw [if_neg h, if_neg fun q => h q.1]
  obtain ⟨e, hei⟩ := he i
  have hcalc : Host.reduceAdd (F := Ideal) (mulf T (subf C (broadcastInDim S2048x32 ![] bcast_S_S2048x32 (constant (F := Ideal) S_ .f32 0x3F800000#32))))
          (constant (F := Ideal) S_ .f32 0x00000000#32) reducesTo_S2048x32_S2048_d1 h_S_ (ix1 i) = ((rank E i : ℝ) : EReal) := by
    rw [hostrow]
    refine (Finset.sum_congr rfl fun k _ => (show _ = ind (E i) (BitVec.ofNat 32 k.val) * (C (ix2 i k) - 1) from ?_)).trans ?_
    · rw [← hT]
      show T (ix2 i k) * (C (ix2 i k) - Ideal.ofBits .f32 0x3F800000#32) = _
      rw [Ideal.ofBits_one_f32]
    · rw [Finset.sum_eq_single e]
      · rw [hsum e, ← hei, upto_card]
        unfold ind
        rw [if_pos rfl, one_mul]
        rw [Nat.cast_add, Nat.cast_one, ← EReal.coe_one, ← EReal.coe_sub, add_sub_cancel_right]
      · intro k _ hk
        unfold ind
        rw [if_neg (fun h => hk (Fin.ext (word_inj (n := 32) (by omega) k.isLt e.isLt (h.symm.trans hei)))), zero_mul]
      · intro h; exact absurd (Finset.mem_univ _) h
  show FloatOps.fptosi (F := Ideal) (φ := .f32) 32 (Host.reduceAdd (F := Ideal) _ _ reducesTo_S2048x32_S2048_d1 h_S_ (ix1 i)) = _
  rw [hcalc]
  refine fptosi_nat _ (lt_of_le_of_lt (Finset.card_le_univ _) ?_)
  rw [Fintype.card_fin]; norm_num

/-- A token's place. -/
def place (c : Fin 4) (E : Fin 2048 → BitVec 32) (e : Fin 32) (i : Fin 2048) : ℕ := ((e.val / 8 + 4 - c.val) % 4) * 1024 + (e.val % 8) * 128 + rank E i

variable (m : (l : Loc nD τ sig) → Buf (Elt Ideal) l) (c : Dev nD)

/-- The words of the device's experts, at the launch. -/
abbrev words : Fin 2048 → BitVec 32 := fun i => V0 m c (main_arg2 : DevRef τ sig) (ix2 i 0)

theorem V3_v18 (he : ∀ i, ∃ e : Fin 32, words m c i = BitVec.ofNat 32 e.val) (i : Fin 2048) :
    V3 m c (main_v18 : DevRef τ sig) (ix1 i) = BitVec.ofNat 32 (rank (words m c) i) := by
  have h12 : V2 m c (main_v12 : DevRef τ sig) = V1 m c (main_v12 : DevRef τ sig) := V2_of m c main_v12 (by decide)
  have h := s2_v18 (V2 m c)
  have h13 := s1_v13 (V1 m c)
  refine (congrFun h (ix1 i)).trans ?_
  refine rank_word (words m c) he _ _ (fun i e => ?_) ?_ i
  · rw [h12]; exact (s0_v12 (V0 m c) c i e).trans (bit_eq _ _)
  · rw [h12]; exact h13

theorem V3_v5 (i : Fin 2048) : V3 m c (main_v5 : DevRef τ sig) (ix1 i) = words m c i := by
  rw [show V3 m c (main_v5 : DevRef τ sig) = V2 m c (main_v5 : DevRef τ sig) from V3_of m c main_v5 (by decide),
    show V2 m c (main_v5 : DevRef τ sig) = V1 m c (main_v5 : DevRef τ sig) from V2_of m c main_v5 (by decide)]
  exact s0_v5 (V0 m c) c i

theorem V4_v4 : V4 m c (main_v4 : DevRef τ sig) = fun _ => ringW c := by
  rw [show V4 m c (main_v4 : DevRef τ sig) = V3 m c (main_v4 : DevRef τ sig) from V4_of m c main_v4 (by decide),
    show V3 m c (main_v4 : DevRef τ sig) = V2 m c (main_v4 : DevRef τ sig) from V3_of m c main_v4 (by decide),
    show V2 m c (main_v4 : DevRef τ sig) = V1 m c (main_v4 : DevRef τ sig) from V2_of m c main_v4 (by decide)]
  funext j
  exact s0_v4 (V0 m c) c j

theorem V6_v22 (i : Fin 2048) (e : Fin 32) (h : words m c i = BitVec.ofNat 32 e.val) :
    V6 m c (main_v22 : DevRef τ sig) (ix1 i) = BitVec.ofNat 32 ((e.val / 8 + 4 - c.val) % 4) := by
  refine (s5_v22 (V5 m c) i (s4_c_3 (V4 m c))).trans ?_
  rw [show V5 m c (main_v21 : DevRef τ sig) (ix1 i) = _ from s4_v21 (V4 m c) i (ringW c) (V4_v4 m c),
    show V4 m c (main_v19 : DevRef τ sig) (ix1 i) = _ from s3_v19 (V3 m c) i (s2_c_2 (V2 m c)), V3_v5, h]
  exact rot_eq e c

theorem V8_v25 (i : Fin 2048) (e : Fin 32) (h : words m c i = BitVec.ofNat 32 e.val) :
    V8 m c (main_v25 : DevRef τ sig) (ix1 i) = BitVec.ofNat 32 (e.val % 8) := by
  refine (s7_v25 (V7 m c) i (s6_c_5 (V6 m c))).trans ?_
  rw [show V7 m c (main_v5 : DevRef τ sig) = V6 m c (main_v5 : DevRef τ sig) from V7_of m c main_v5 (by decide),
    show V6 m c (main_v5 : DevRef τ sig) = V5 m c (main_v5 : DevRef τ sig) from V6_of m c main_v5 (by decide),
    show V5 m c (main_v5 : DevRef τ sig) = V4 m c (main_v5 : DevRef τ sig) from V5_of m c main_v5 (by decide),
    show V4 m c (main_v5 : DevRef τ sig) = V3 m c (main_v5 : DevRef τ sig) from V4_of m c main_v5 (by decide), V3_v5, h]
  exact row_eq e

theorem V8_v24 (i : Fin 2048) (e : Fin 32) (h : words m c i = BitVec.ofNat 32 e.val) :
    V8 m c (main_v24 : DevRef τ sig) (ix1 i) = IntOp.muli (BitVec.ofNat 32 ((e.val / 8 + 4 - c.val) % 4)) 1024#32 := by
  rw [show V8 m c (main_v24 : DevRef τ sig) = V7 m c (main_v24 : DevRef τ sig) from V8_of m c main_v24 (by decide),
    show V7 m c (main_v24 : DevRef τ sig) (ix1 i) = _ from s6_v24 (V6 m c) i, V6_v22 m c i e h]

theorem V8_v18 (he : ∀ i, ∃ e : Fin 32, words m c i = BitVec.ofNat 32 e.val) (i : Fin 2048) :
    V8 m c (main_v18 : DevRef τ sig) (ix1 i) = BitVec.ofNat 32 (rank (words m c) i) := by
  rw [show V8 m c (main_v18 : DevRef τ sig) = V7 m c (main_v18 : DevRef τ sig) from V8_of m c main_v18 (by decide),
    show V7 m c (main_v18 : DevRef τ sig) = V6 m c (main_v18 : DevRef τ sig) from V7_of m c main_v18 (by decide),
    show V6 m c (main_v18 : DevRef τ sig) = V5 m c (main_v18 : DevRef τ sig) from V6_of m c main_v18 (by decide),
    show V5 m c (main_v18 : DevRef τ sig) = V4 m c (main_v18 : DevRef τ sig) from V5_of m c main_v18 (by decide),
    show V4 m c (main_v18 : DevRef τ sig) = V3 m c (main_v18 : DevRef τ sig) from V4_of m c main_v18 (by decide), V3_v18 m c he]

/-- The word of a token's place, when its rank fits. -/
theorem V11_v33 (he : ∀ i, ∃ e : Fin 32, words m c i = BitVec.ofNat 32 e.val) (i : Fin 2048) (e : Fin 32)
    (h : words m c i = BitVec.ofNat 32 e.val) (hr : rank (words m c) i < 128) :
    V11 m c (main_v33 : DevRef τ sig) (ix2 i 0) = BitVec.ofNat 32 (place c (words m c) e i) := by
  refine (s10_v33 (V10 m c) i).trans ((s9_v32 (V9 m c) i ?_).trans ?_)
  · refine (s8_v31 (V8 m c) i).trans ?_
    rw [V8_v18 m c he]
    exact fits ⟨_, hr⟩
  · refine (s8_v29 (V8 m c) i).trans ?_
    rw [V8_v18 m c he, V8_v24 m c i e h, V8_v25 m c i e h]
    unfold place IntOp.addi IntOp.muli
    rw [BitVec.ofNat_add, BitVec.ofNat_add, BitVec.ofNat_mul, BitVec.ofNat_mul]

end Cert.Proof.Moe

end
-- ==== Proof.Token.lean ====
/-
What the program leaves at a token: the shared product, and the weight of the token's expert times the product with that
expert.
-/
module

public import proofs.«01_k».proof.Proof.Place
public import proofs.«01_k».proof.Proof.Run

@[expose] public section

set_option maxRecDepth 16384

noncomputable section

namespace Cert.Proof.Moe

open Cert.KernelIdeal Cert.KernelIdeal.Gen
open Idealize.ShloMosaic hiding ix1 ix2 ix3 ix4
open Idealize.ShloMosaic.TcCoe Idealize.ShloMosaic.ValueIdx
open scoped BigOperators

/-- The way round the ring to an expert's device. -/
def way (c : Fin 4) (e : Fin 32) : Fin 4 := ⟨(e.val / 8 + 4 - c.val) % 4, Nat.mod_lt _ (by decide)⟩
/-- The device an expert is on. -/
def home (e : Fin 32) : Fin 4 := ⟨e.val / 8, by omega⟩
/-- The expert's row there. -/
def row (e : Fin 32) : Fin 8 := ⟨e.val % 8, by omega⟩

/-- Going that way round leads there. -/
theorem way_home : ∀ (e : Fin 32) (c : Fin 4), c + way c e = home e := by decide

/-- A place is under the number of places. -/
theorem place_lt (c : Fin 4) (E : Fin 2048 → BitVec 32) (e : Fin 32) (i : Fin 2048) (hr : rank E i < 128) : place c E e i < 4096 := by
  unfold place
  have h1 : (e.val / 8 + 4 - c.val) % 4 < 4 := Nat.mod_lt _ (by decide)
  have h2 : e.val % 8 < 8 := Nat.mod_lt _ (by decide)
  omega

/-- Two tokens at one place are one token. -/
theorem place_inj (c : Fin 4) (E : Fin 2048 → BitVec 32) (e e' : Fin 32) (i i' : Fin 2048) (he : E i = BitVec.ofNat 32 e.val)
    (he' : E i' = BitVec.ofNat 32 e'.val) (hr : rank E i < 128) (hr' : rank E i' < 128) (h : place c E e i = place c E e' i') : i = i' := by
  unfold place at h
  have hc := c.isLt
  have h1 := e.isLt
  have h2 := e'.isLt
  have hee : e.val = e'.val ∧ rank E i = rank E i' := by omega
  exact rank_inj E (by rw [he, he', hee.1]) hee.2

/-- Where one word among the small numbers is marked, a sum is its term there. -/
theorem pick {n : ℕ} (hn : n ≤ 4096) (a : Fin n) (g : Fin n → EReal) :
    (∑ q : Fin n, ind (BitVec.ofNat 32 q.val) (BitVec.ofNat 32 a.val) * g q) = g a := by
  rw [Finset.sum_eq_single a]
  · unfold ind; rw [if_pos rfl, one_mul]
  · intro q _ hq
    unfold ind
    rw [if_neg fun h => hq (Fin.ext (word_inj hn q.isLt a.isLt h)), zero_mul]
  · intro h; exact absurd (Finset.mem_univ _) h

section Exchange

variable (D : Dev nD → CB Ideal) (Wt : Dev nD → S8x1024x1024.Idx → Elt Ideal .bf16)

/-- What a device has in a slot at the end: its own rows, times the weights of the device that many places on. -/
theorem answer_at (c : Dev nD) (j : Fin 4) (k : Fin 8) (r : Fin 128) (d : Fin 1024) :
    answer D Wt c (ix4 j k r d) = ∑ f : Fin 1024, D c (ix4 j k r f) * Wt (peer c j) (ix3 k f d) := by
  have h1 : atSlot (-j) (ix4 j k r d) = ix4 (-j) k r d := by
    funext a; match a with | ⟨0, _⟩ => rfl | ⟨1, _⟩ => rfl | ⟨2, _⟩ => rfl | ⟨3, _⟩ => rfl
  show mm (recvd D (peer c j)) (Wt (peer c j)) (atSlot (-j) (ix4 j k r d)) = _
  rw [h1, mm_at]
  refine Finset.sum_congr rfl fun f _ => congrArg₂ (· * ·) ?_ rfl
  show D (peer (peer c j) (-j)) (atSlot (-(-j)) (ix4 (-j) k r f)) = _
  rw [peer_neg, neg_neg]
  refine congrArg (D c) ?_
  funext a; match a with | ⟨0, _⟩ => rfl | ⟨1, _⟩ => rfl | ⟨2, _⟩ => rfl | ⟨3, _⟩ => rfl

end Exchange

variable (m : (l : Loc nD τ sig) → Buf (Elt Ideal) l) (c : Dev nD)

/-- The device's tokens, at the launch, -/
abbrev inX (c : Dev nD) : FVec Ideal S2048x1024 .bf16 := V0 m c main_arg0
/-- the scores' weights, -/
abbrev inR (c : Dev nD) : FVec Ideal S1024x32 .bf16 := V0 m c main_arg1
/-- the device's experts' weights, -/
abbrev inE (c : Dev nD) : FVec Ideal S8x1024x1024 .bf16 := V0 m c main_arg3
/-- and the shared weights. -/
abbrev inS (c : Dev nD) : FVec Ideal S1024x1024 .bf16 := V0 m c main_arg4

theorem A11_of (r : Ref sig .tc) (h : r ∉ hostOps0_W ++ hostOps0_1_W ++ hostOps0_2_W ++ hostOps0_3_W ++ hostOps0_4_W ++ hostOps0_5_W ++ hostOps0_6_W
    ++ hostOps0_7_W ++ hostOps0_8_W ++ hostOps0_9_W ++ hostOps0_10_W) : A11 m c r = V0 m c r := by
  simp only [List.mem_append, not_or] at h
  obtain ⟨⟨⟨⟨⟨⟨⟨⟨⟨⟨h0, h1⟩, h2⟩, h3⟩, h4⟩, h5⟩, h6⟩, h7⟩, h8⟩, h9⟩, h10⟩ := h
  exact (V11_of m c r h10).trans ((V10_of m c r h9).trans ((V9_of m c r h8).trans ((V8_of m c r h7).trans ((V7_of m c r h6).trans
    ((V6_of m c r h5).trans ((V5_of m c r h4).trans ((V4_of m c r h3).trans ((V3_of m c r h2).trans ((V2_of m c r h1).trans (V1_of m c r h0))))))))))

theorem A12_arg0 : A12 m c main_arg0 = V0 m c main_arg0 := (left0_ne (A11 m) c main_arg0 (by decide)).trans (A11_of m c main_arg0 (by decide))
theorem A12_arg1 : A12 m c main_arg1 = V0 m c main_arg1 := (left0_ne (A11 m) c main_arg1 (by decide)).trans (A11_of m c main_arg1 (by decide))
theorem A12_arg2 : A12 m c main_arg2 = V0 m c main_arg2 := (left0_ne (A11 m) c main_arg2 (by decide)).trans (A11_of m c main_arg2 (by decide))
theorem A12_arg4 : A12 m c main_arg4 = V0 m c main_arg4 := (left0_ne (A11 m) c main_arg4 (by decide)).trans (A11_of m c main_arg4 (by decide))
theorem A12_v33 : A12 m c main_v33 = V11 m c main_v33 := left0_ne (A11 m) c main_v33 (by decide)
theorem A12_v34 : A12 m c main_v34 = V0 m c main_arg3 := (left0_main_v34 (A11 m) c).trans (A11_of m c main_arg3 (by decide))

/-- The regrouping of the rows writes no other buffer. -/
theorem A14_ne (r : Ref sig .tc) (h : r ∉ hostOps2_W) : A14 m c r = A13 m c r := by
  have h1 := V14_of m (outs m) c r h
  rw [V14_eq, V13_eq] at h1; exact h1
theorem A16_ne (r : Ref sig .tc) (h : r ∉ hostOps3_W) : A16 m c r = A15 m c r := by
  have h1 := V16_of m (outs m) c r h
  rw [V16_eq, V15_eq] at h1; exact h1

theorem A14_v35_2 : A14 m c main_v35_2 = V0 m c main_arg0 := by
  rw [A14_ne m c main_v35_2 (by decide)]
  refine (left1_main_v35_2 (A12 m) c).trans ?_
  rw [A12_arg0]
  unfold k1_pay1
  exact shapeCast_self _ _
theorem A14_arg4 : A14 m c main_arg4 = V0 m c main_arg4 := by
  rw [A14_ne m c main_arg4 (by decide)]
  exact (left1_ne (A12 m) c main_arg4 (by decide) (by decide) (by decide)).trans (A12_arg4 m c)
theorem A14_v34 : A14 m c main_v34 = V0 m c main_arg3 := by
  rw [A14_ne m c main_v34 (by decide)]
  exact (left1_ne (A12 m) c main_v34 (by decide) (by decide) (by decide)).trans (A12_v34 m c)
theorem A14_v33 : A14 m c main_v33 = V11 m c main_v33 := by
  rw [A14_ne m c main_v33 (by decide)]
  exact (left1_ne (A12 m) c main_v33 (by decide) (by decide) (by decide)).trans (A12_v33 m c)
theorem A14_v35_1 : A14 m c main_v35_1 = k1_pay3 (F := Ideal) (V0 m c main_arg0) (V0 m c main_arg1) (V0 m c main_arg2) := by
  rw [A14_ne m c main_v35_1 (by decide)]
  refine (left1_main_v35_1 (A12 m) c).trans ?_
  rw [A12_arg0, A12_arg1, A12_arg2]

/-- The rows sent, in their four groups. -/
theorem A14_v36 (j : Fin 4) (k : Fin 8) (r : Fin 128) (d : Fin 1024) :
    A14 m c main_v36 (ix4 j k r d)
      = k1_pay2 (F := Ideal) (V0 m c main_arg0) (V11 m c main_v33) (ix2 ⟨(j.val * 8 + k.val) * 128 + r.val, by omega⟩ d) := by
  have h : A14 m c main_v36 = shapeCast S4x8x128x1024 (A13 m c main_v35_0 : S4096x1024.Idx → Elt Ideal .bf16) shapeCasts_S4096x1024_S4x8x128x1024 := by
    unfold A14
    after_results_simp
    rfl
  rw [h, shapeCast_apply _ shapeCasts_S4096x1024_S4x8x128x1024 (ix4 j k r d) (ix2 ⟨(j.val * 8 + k.val) * 128 + r.val, by omega⟩ d) (by
    rw [Shape.rowMajor_val_two, Shape.rowMajor_val_four]; rfl)]
  refine congrFun ((left1_main_v35_0 (A12 m) c).trans ?_) _
  rw [A12_arg0, A12_v33]

/-- The answers, in one row of places. -/
theorem A16_v38 (j : Fin 4) (k : Fin 8) (r : Fin 128) (d : Fin 1024) :
    A16 m c main_v38 (ix2 ⟨(j.val * 8 + k.val) * 128 + r.val, by omega⟩ d) = answer (rowsOf (A14 m)) (wgtsOf (A14 m)) c (ix4 j k r d) := by
  have h : A16 m c main_v38 = shapeCast S4096x1024 (A15 m c main_v37_0 : S4x8x128x1024.Idx → Elt Ideal .bf16) shapeCasts_S4x8x128x1024_S4096x1024 := by
    unfold A16
    after_results_simp
    rfl
  rw [h, shapeCast_apply _ shapeCasts_S4x8x128x1024_S4096x1024 (ix2 ⟨(j.val * 8 + k.val) * 128 + r.val, by omega⟩ d) (ix4 j k r d) (by
    rw [Shape.rowMajor_val_two, Shape.rowMajor_val_four]; rfl)]
  exact congrFun (left2_main_v37_0 (A14 m) c) _

/-- The row at a token's place is the token's. -/
theorem sent (he : ∀ i, ∃ e : Fin 32, words m c i = BitVec.ofNat 32 e.val) (hr : ∀ i, rank (words m c) i < 128) (i : Fin 2048) (e : Fin 32)
    (h : words m c i = BitVec.ofNat 32 e.val) (q : Fin 4096) (hq : q.val = place c (words m c) e i) (f : Fin 1024) :
    k1_pay2 (F := Ideal) (V0 m c main_arg0) (V11 m c main_v33) (ix2 q f) = inX m c (ix2 i f) := by
  refine (k1_pay2_at _ _ q f).trans ?_
  refine (Finset.sum_eq_single i (fun i' _ hne => ?_) (fun hn => absurd (Finset.mem_univ _) hn)).trans ?_
  · obtain ⟨e', he'⟩ := he i'
    refine (congrArg₂ (· * ·) (congrArg (ind _) (V11_v33 m c he i' e' he' (hr i'))) rfl).trans ?_
    unfold ind
    rw [if_neg fun hw => hne ?_]
    · exact zero_mul _
    have h2 : q.val = place c (words m c) e' i' := word_inj (n := 4096) (le_refl _) q.isLt (place_lt c _ e' i' (hr i')) hw
    exact place_inj c _ e' e i' i he' h (hr i') (hr i) (h2.symm.trans hq)
  · refine (congrArg₂ (· * ·) (congrArg (ind _) (V11_v33 m c he i e h (hr i))) rfl).trans ?_
    unfold ind
    rw [if_pos (congrArg (BitVec.ofNat 32) hq)]
    exact one_mul _

/-- What comes back to a token's place. -/
theorem came (he : ∀ i, ∃ e : Fin 32, words m c i = BitVec.ofNat 32 e.val) (hr : ∀ i, rank (words m c) i < 128) (i : Fin 2048) (e : Fin 32)
    (h : words m c i = BitVec.ofNat 32 e.val) (d : Fin 1024) :
    (A16 m c main_v38 (ix2 ⟨place c (words m c) e i, place_lt c _ e i (hr i)⟩ d) : EReal)
      = ∑ f : Fin 1024, inX m c (ix2 i f) * inE m (home e) (ix3 (row e) f d) := by
  have hq : (⟨place c (words m c) e i, place_lt c _ e i (hr i)⟩ : Fin 4096)
      = ⟨((way c e).val * 8 + (row e).val) * 128 + rank (words m c) i, by have := (way c e).isLt; have := (row e).isLt; have := hr i; omega⟩ := by
    apply Fin.ext; unfold place way row; dsimp only; omega
  rw [hq]
  refine (A16_v38 m c (way c e) (row e) ⟨rank (words m c) i, hr i⟩ d).trans ?_
  rw [answer_at]
  refine Finset.sum_congr (M := EReal) rfl fun f _ => congrArg₂ (· * ·) ?_ ?_
  · refine (A14_v36 m c (way c e) (row e) ⟨rank (words m c) i, hr i⟩ f).trans ?_
    exact sent m c he hr i e h _ (congrArg Fin.val hq).symm f
  · show A14 m (peer c (way c e)) main_v34 (ix3 (row e) f d) = _
    rw [A14_v34, show peer c (way c e) = home e from way_home e c]

/-- The weight of the token's expert. -/
theorem weight (i : Fin 2048) (e : Fin 32) (h : words m c i = BitVec.ofNat 32 e.val) :
    k1_pay3 (F := Ideal) (V0 m c main_arg0) (V0 m c main_arg1) (V0 m c main_arg2) (ix2 i 0) = soft (scoreK (inX m c) (inR m c) i) e := by
  refine (k1_pay3_at _ _ _ i).trans ?_
  refine (Finset.sum_congr rfl fun k _ => (congrArg (fun w => soft (scoreK (inX m c) (inR m c) i) k * ind (BitVec.ofNat 32 k.val) w) h).trans (mul_comm _ _)).trans ?_
  exact pick (by omega) e _

/-- What the program leaves at a token. -/
theorem token (he : ∀ i, ∃ e : Fin 32, words m c i = BitVec.ofNat 32 e.val) (hr : ∀ i, rank (words m c) i < 128) (i : Fin 2048) (e : Fin 32)
    (h : words m c i = BitVec.ofNat 32 e.val) (d : Fin 1024) :
    A17 m c main_v39 (ix2 i d)
      = (∑ k : Fin 1024, inX m c (ix2 i k) * inS m c (ix2 k d))
        + soft (scoreK (inX m c) (inR m c) i) e
          * ∑ f : Fin 1024, inX m c (ix2 i f) * inE m (home e) (ix3 (row e) f d) := by
  refine (congrFun (left3_main_v39 (A16 m) c) _).trans ?_
  rw [A16_ne m c main_v33 (by decide), A16_ne m c main_v37_1 (by decide), A16_ne m c main_v35_1 (by decide)]
  refine (k3_pay1_at _ _ _ _ i d).trans (congrArg₂ (· + ·) ?_ (congrArg₂ (· * ·) ?_ ?_))
  · refine (congrFun (left2_main_v37_1 (A14 m) c) _).trans ?_
    rw [A14_v35_2, A14_arg4]
    exact k2_pay1_at _ _ i d
  · exact (congrFun ((left2_ne (A14 m) c main_v35_1 (by decide) (by decide)).trans (A14_v35_1 m c)) _).trans (weight m c i e h)
  · have hv : A15 m c main_v33 (ix2 i 0) = BitVec.ofNat 32 (place c (words m c) e i) :=
      (congrFun ((left2_ne (A14 m) c main_v33 (by decide) (by decide)).trans (A14_v33 m c)) _).trans (V11_v33 m c he i e h (hr i))
    rw [hv]
    exact (pick (le_refl _) ⟨place c (words m c) e i, place_lt c _ e i (hr i)⟩ _).trans (came m c he hr i e h d)

end Cert.Proof.Moe

end
-- ==== Proof.RefRead.lean ====
/-
What the reference answers for a token, read at one element: the shared product, and the product with the expert the token
names, weighted.
-/
module

public import proofs.«01_k».proof.Proof.Gen.ReferenceIdeal.Read
public import proofs.«01_k».proof.Proof.Pays

@[expose] public section

set_option maxRecDepth 16384

noncomputable section

namespace Cert.Proof.Whole

open Cert.ReferenceIdeal Cert.ReferenceIdeal.Gen Cert.ReferenceIdeal.Read
open Idealize.ShloMosaic
open Idealize.ShloMosaic.ValueIdx
open Cert.Proof.Moe (soft)
open scoped BigOperators

variable (x0 : FVec Ideal S8192x1024 .bf16) (x1 : FVec Ideal S1024x32 .bf16) (x2 : IVec S8192x1 32)
  (x3 : FVec Ideal S32x1024x1024 .bf16) (x4 : FVec Ideal S1024x1024 .bf16)

/-- A token's scores over the whole arrays. -/
abbrev score (r : Fin 8192) (e : Fin 32) : EReal := ∑ k : Fin 1024, x0 (ix2 r k) * x1 (ix2 k e)

/-- The scores. -/
theorem scores_at (r : Fin 8192) (e : Fin 32) : val_main_v2 (F := Ideal) x0 x1 (ix2 r e) = score x0 x1 r e := by
  refine (val_main_v2_apply x0 x1 _).trans (Finset.sum_congr (M := EReal) rfl fun k _ => ?_)
  have hl : lidx_main_v2 (ix2 r e) k = ix2 r k := by funext a; match a with | ⟨0, _⟩ => rfl | ⟨1, _⟩ => rfl
  have hr : ridx_main_v2 (ix2 r e) k = ix2 k e := by funext a; match a with | ⟨0, _⟩ => rfl | ⟨1, _⟩ => rfl
  rw [hl, hr]
  rfl

/-- The greatest score. -/
theorem greatest_at (r : Fin 8192) (e : Fin 32) :
    val_main_v5 (F := Ideal) x0 x1 (ix2 r e)
      = (Finset.univ : Finset (Fin 32)).fold max (Ideal.ofBits .f32 0xFF800000#32) (score x0 x1 r) := by
  rw [val_main_v5_apply, val_main_v4_apply]
  have hs : ∀ k, val_main_v2 (F := Ideal) x0 x1 (ix2 r k) = score x0 x1 r k := scores_at x0 x1 r
  unfold val_main_v3
  generalize val_main_v2 (F := Ideal) x0 x1 = y at hs ⊢
  refine (Host.reduce_eq_fold_single (FloatOps.maximumf (F := Ideal) (φ := .f32)) y _ reducesTo_S8192x32_S8192_d1 (by decide) h_S_ _).trans ?_
  refine congrArg (fun f => (Finset.univ : Finset (Fin 32)).fold max (Ideal.ofBits .f32 0xFF800000#32) f) (funext fun k => ?_)
  refine Eq.trans ?_ (hs k)
  refine congrArg y ?_
  funext a; match a with | ⟨0, _⟩ => rfl | ⟨1, _⟩ => rfl

/-- The exponentials. -/
theorem exps_at (r : Fin 8192) (e : Fin 32) :
    val_main_v7 (F := Ideal) x0 x1 (ix2 r e)
      = Ideal.exp (score x0 x1 r e - (Finset.univ : Finset (Fin 32)).fold max (Ideal.ofBits .f32 0xFF800000#32) (score x0 x1 r)) := by
  rw [← greatest_at x0 x1 r e, ← scores_at x0 x1 r e]
  rfl

/-- Their sum. -/
theorem sum_at (r : Fin 8192) (e : Fin 32) :
    val_main_v10 (F := Ideal) x0 x1 (ix2 r e)
      = ∑ k : Fin 32, Ideal.exp (score x0 x1 r k - (Finset.univ : Finset (Fin 32)).fold max (Ideal.ofBits .f32 0xFF800000#32) (score x0 x1 r)) := by
  rw [val_main_v10_apply, val_main_v9_apply, val_main_v8_apply, val_main_cst_0_apply]
  show Ideal.ofBits .f32 0x00000000#32 + _ = _
  rw [Ideal.ofBits_zero_f32, zero_add]
  refine Finset.sum_congr (M := EReal) rfl fun k _ => ?_
  refine Eq.trans ?_ (exps_at x0 x1 r k)
  refine congrArg (val_main_v7 (F := Ideal) x0 x1) ?_
  funext a; match a with | ⟨0, _⟩ => rfl | ⟨1, _⟩ => rfl

/-- The weights. -/
theorem weights_at (r : Fin 8192) (e : Fin 32) : val_main_v11 (F := Ideal) x0 x1 (ix2 r e) = soft (score x0 x1 r) e := by
  rw [val_main_v11_apply, exps_at, sum_at]
  rfl

/-- Which expert a token names, as one bit an expert. -/
theorem named_at (r : Fin 8192) (k : Fin 32) :
    val_main_v18 (F := Ideal) x2 (ix2 r k) = IntOp.cmpi .eq (x2 (ix2 r 0)) (BitVec.ofNat 32 k.val) := by
  rw [val_main_v18_apply, val_main_v16_apply, val_main_v17_apply, val_main_v15_apply, val_main_v14_apply]
  refine congrArg₂ (IntOp.cmpi .eq) (congrArg x2 ?_) rfl
  funext a; match a with | ⟨0, _⟩ => rfl | ⟨1, _⟩ => rfl

/-- Picking by a bit that is set at one expert alone, then summing, gives that expert's. -/
theorem choose (e : Fin 32) (f : Fin 32 → EReal) :
    (∑ k : Fin 32, Scalar.select (IntOp.cmpi .eq (BitVec.ofNat 32 e.val) (BitVec.ofNat 32 k.val)) (f k) (Ideal.ofBits .f32 0x00000000#32)) = f e := by
  refine (Finset.sum_eq_single e (fun k _ hne => ?_) (fun hn => absurd (Finset.mem_univ _) hn)).trans ?_
  · have hw : (BitVec.ofNat 32 e.val) ≠ BitVec.ofNat 32 k.val := fun h => hne (Fin.ext (by
      have := congrArg BitVec.toNat h
      simp only [BitVec.toNat_ofNat] at this
      have := e.isLt; have := k.isLt; omega))
    rw [show IntOp.cmpi .eq (BitVec.ofNat 32 e.val) (BitVec.ofNat 32 k.val) = 0#1 by simp [IntOp.cmpi, beq_eq_false_iff_ne.mpr hw]]
    exact (if_neg (by decide)).trans Ideal.ofBits_zero_f32
  · rw [show IntOp.cmpi .eq (BitVec.ofNat 32 e.val) (BitVec.ofNat 32 e.val) = 1#1 by simp [IntOp.cmpi]]
    exact if_pos rfl

/-- The weight of the expert a token names. -/
theorem weight_at (r : Fin 8192) (e : Fin 32) (h : x2 (ix2 r 0) = BitVec.ofNat 32 e.val) (d : Fin 1024) :
    val_main_v27 (F := Ideal) x0 x1 x2 (ix2 r d) = soft (score x0 x1 r) e := by
  rw [val_main_v27_apply, val_main_v21_apply, val_main_v20_apply, val_main_cst_2_apply]
  show Ideal.ofBits .f32 0x00000000#32 + _ = _
  rw [Ideal.ofBits_zero_f32, zero_add]
  refine Eq.trans (Finset.sum_congr (M := EReal) rfl fun k _ => ?_) (choose e (soft (score x0 x1 r)))
  have hk : idx_main_v20 (idx_main_v21 (idx_main_v27 (ix2 r d))) k = ix2 r k := by funext a; match a with | ⟨0, _⟩ => rfl | ⟨1, _⟩ => rfl
  rw [hk, val_main_v19_apply, named_at, h, weights_at]
  rfl

/-- The product with the expert a token names. -/
theorem expert_at (r : Fin 8192) (e : Fin 32) (h : x2 (ix2 r 0) = BitVec.ofNat 32 e.val) (d : Fin 1024) :
    val_main_v26 (F := Ideal) x0 x2 x3 (ix2 r d) = ∑ f : Fin 1024, x0 (ix2 r f) * x3 (ix3 e f d) := by
  rw [val_main_v26_apply, val_main_cst_4_apply]
  show Ideal.ofBits .f32 0x00000000#32 + _ = _
  rw [Ideal.ofBits_zero_f32, zero_add]
  refine Eq.trans (Finset.sum_congr (M := EReal) rfl fun k _ => ?_) (choose e (fun e => ∑ f : Fin 1024, x0 (ix2 r f) * x3 (ix3 e f d)))
  have hk : idx_main_v26 (ix2 r d) k = ix3 r k d := by funext a; match a with | ⟨0, _⟩ => rfl | ⟨1, _⟩ => rfl | ⟨2, _⟩ => rfl
  have hn : idx_main_v24 (idx_main_call1_v1 (ix3 r k d)) = ix2 r k := by funext a; match a with | ⟨0, _⟩ => rfl | ⟨1, _⟩ => rfl
  have hp : val_main_v23 (F := Ideal) x0 x3 (ix3 r k d) = ∑ f : Fin 1024, x0 (ix2 r f) * x3 (ix3 k f d) := by
    refine (val_main_v23_apply x0 x3 _).trans (Finset.sum_congr (M := EReal) rfl fun f _ => ?_)
    have hl : lidx_main_v23 (ix3 r k d) f = ix2 r f := by funext a; match a with | ⟨0, _⟩ => rfl | ⟨1, _⟩ => rfl
    have hr : ridx_main_v23 (ix3 r k d) f = ix3 k f d := by funext a; match a with | ⟨0, _⟩ => rfl | ⟨1, _⟩ => rfl | ⟨2, _⟩ => rfl
    rw [hl, hr]
    rfl
  rw [hk, val_main_v25_apply, val_main_call1_v1_apply, val_main_v24_apply, hn, named_at, h, hp]
  rfl

/-- The reference's answer for a token. -/
theorem answer_at (r : Fin 8192) (e : Fin 32) (h : x2 (ix2 r 0) = BitVec.ofNat 32 e.val) (d : Fin 1024) :
    val_main_v29 (F := Ideal) x0 x1 x2 x3 x4 (ix2 r d)
      = (∑ k : Fin 1024, x0 (ix2 r k) * x4 (ix2 k d)) + soft (score x0 x1 r) e * ∑ f : Fin 1024, x0 (ix2 r f) * x3 (ix3 e f d) := by
  rw [val_main_v29_apply, val_main_v28_apply, weight_at x0 x1 x2 r e h, expert_at x0 x2 x3 r e h]
  refine congrArg₂ (· + ·) ?_ rfl
  refine (val_main_v13_apply x0 x4 _).trans (Finset.sum_congr (M := EReal) rfl fun k _ => ?_)
  have hl : lidx_main_v13 (ix2 r d) k = ix2 r k := by funext a; match a with | ⟨0, _⟩ => rfl | ⟨1, _⟩ => rfl
  have hr : ridx_main_v13 (ix2 r d) k = ix2 k d := by funext a; match a with | ⟨0, _⟩ => rfl | ⟨1, _⟩ => rfl
  rw [hl, hr]
  rfl

end Cert.Proof.Whole

end
-- ==== Proof.Within.lean ====
/-
What the precondition says of a device's tokens: each names one of the 32 experts, and at most 128 name the same one.
-/
module

public import proofs.«01_k».proof.Defs
public import proofs.«01_k».proof.Proof.Gen.Pre_routed_within_capacity_KernelIdeal
public import proofs.«01_k».proof.Proof.Rank
public import Idealize.ShloMosaic.Lib.IndicatorCount
public import Idealize.ShloMosaic.Lib.ValueIdx
public import Idealize.ShloMosaic.Lib.ValueLayout

@[expose] public section

set_option maxRecDepth 16384

noncomputable section

namespace Cert.Proof.Within

open Cert.Pre_routed_within_capacity_KernelIdeal Cert.Pre_routed_within_capacity_KernelIdeal.Gen
open Idealize.ShloMosaic
open Idealize.ShloMosaic.ValueIdx
open Cert.Proof.Moe (rank total rank_lt)
open scoped BigOperators

variable (x0 : FVec Ideal S2048x1024 .bf16) (x1 : FVec Ideal S1024x32 .bf16) (x2 : IVec S2048x1 32)
  (x3 : FVec Ideal S8x1024x1024 .bf16) (x4 : FVec Ideal S1024x1024 .bf16)

/-- A word from zero on and below 32 is an expert's number. -/
theorem expert_of (w : BitVec 32) (h0 : IntOp.cmpi .sge w 0#32 = 1#1) (h1 : IntOp.cmpi .slt w 32#32 = 1#1) :
    ∃ e : Fin 32, w = BitVec.ofNat 32 e.val := by
  have a0 : (0#32).sle w = true := by
    by_contra hc
    rw [Bool.not_eq_true] at hc
    simp [IntOp.cmpi, hc] at h0
  have a1 : w.slt 32#32 = true := by
    by_contra hc
    rw [Bool.not_eq_true] at hc
    simp [IntOp.cmpi, hc] at h1
  have b0 : (0 : ℤ) ≤ w.toInt := by simpa [BitVec.sle] using a0
  have b1 : w.toInt < 32 := by simpa [BitVec.slt] using a1
  have hw := w.isLt
  rw [BitVec.toInt_eq_toNat_cond] at b0 b1
  refine ⟨⟨w.toNat, by split at b1 <;> omega⟩, ?_⟩
  exact (BitVec.ofNat_toNat 32 w).symm ▸ (BitVec.setWidth_eq w).symm

/-- Each token names an expert. -/
theorem names (h0 : (fn (F := Ideal) x0 x1 x2 x3 x4).1 = fun _ => 1#1) (h1 : (fn (F := Ideal) x0 x1 x2 x3 x4).2.1 = fun _ => 1#1) (i : Fin 2048) :
    ∃ e : Fin 32, x2 (ix2 i 0) = BitVec.ofNat 32 e.val :=
  expert_of _ (congrFun h0 (ix2 i 0)) (congrFun h1 (ix2 i 0))

/-- The bits whose sum is bounded. -/
theorem bit_at (i : Fin 2048) (k : Fin 32) :
    cmpi .eq (broadcastInDim S2048x32 ![0, 1] bcast_S2048x1_S2048x32_0_1 x2)
      (broadcastInDim S2048x32 ![0, 1] bcast_S1x32_S2048x32_0_1 (broadcastInDim S1x32 ![1] bcast_S32_S1x32_1 (iotaInDim S32 32 0))) (ix2 i k)
      = IntOp.cmpi .eq (x2 (ix2 i 0)) (BitVec.ofNat 32 k.val) := by
  refine congrArg₂ (IntOp.cmpi .eq) ?_ ?_
  · exact broadcastInDim_apply _ bcast_S2048x1_S2048x32_0_1 x2 (ix2 i k) (ix2 i 0) fun a => by
      match a with
      | ⟨0, _⟩ => show i.val = if (2048 : ℕ) = 1 then 0 else i.val; rw [if_neg (by decide)]
      | ⟨1, _⟩ => rfl
  · refine (broadcastInDim_apply _ bcast_S1x32_S2048x32_0_1 _ (ix2 i k) (ix2 (0 : Fin 1) k) fun a => by
      match a with
      | ⟨0, _⟩ => rfl
      | ⟨1, _⟩ => show k.val = if (32 : ℕ) = 1 then 0 else k.val; rw [if_neg (by decide)]).trans ?_
    exact broadcastInDim_apply _ bcast_S32_S1x32_1 _ (ix2 (0 : Fin 1) k) (ix1 k) fun a => by
      match a with
      | ⟨0, _⟩ => show k.val = if (32 : ℕ) = 1 then 0 else k.val; rw [if_neg (by decide)]

/-- The bounded sum is the number of tokens that name the expert. -/
theorem count_at (k : Fin 32) :
    Host.reduce IntOp.addi (extui 32 (cmpi .eq (broadcastInDim S2048x32 ![0, 1] bcast_S2048x1_S2048x32_0_1 x2)
      (broadcastInDim S2048x32 ![0, 1] bcast_S1x32_S2048x32_0_1 (broadcastInDim S1x32 ![1] bcast_S32_S1x32_1 (iotaInDim S32 32 0)))) natLt_1_32)
      (constantI S_ 32 0#32) reducesTo_S2048x32_S32_d0 h_S_ (ix1 k)
      = BitVec.ofNat 32 (total (fun i => x2 (ix2 i 0)) (BitVec.ofNat 32 k.val)) := by
  have hb := fun i => bit_at x2 i k
  generalize cmpi .eq (broadcastInDim S2048x32 ![0, 1] bcast_S2048x1_S2048x32_0_1 x2)
      (broadcastInDim S2048x32 ![0, 1] bcast_S1x32_S2048x32_0_1 (broadcastInDim S1x32 ![1] bcast_S32_S1x32_1 (iotaInDim S32 32 0))) = y at hb ⊢
  refine (Host.reduce_eq_fold_single IntOp.addi (extui 32 y natLt_1_32) _ reducesTo_S2048x32_S32_d0 (by decide) h_S_ (ix1 k)).trans ?_
  refine Eq.trans ?_ ((IndicatorCount.fold_addi_setWidth_eq_card (w := 32) (fun i : Fin 2048 => y (ix2 i k)) Finset.univ).trans ?_)
  · refine congrArg (fun f => (Finset.univ : Finset (Fin 2048)).fold IntOp.addi (0#32) f) (funext fun i => ?_)
    refine congrArg (fun j => (y j).setWidth 32) ?_
    funext a; match a with | ⟨0, _⟩ => rfl | ⟨1, _⟩ => rfl
  · refine congrArg (fun s : Finset (Fin 2048) => BitVec.ofNat 32 s.card) (Finset.filter_congr fun i _ => ?_)
    rw [hb]
    by_cases hc : x2 (ix2 i 0) = BitVec.ofNat 32 k.val
    · simp [IntOp.cmpi, hc]
    · rw [show IntOp.cmpi .eq (x2 (ix2 i 0)) (BitVec.ofNat 32 k.val) = 0#1 by simp [IntOp.cmpi, beq_eq_false_iff_ne.mpr hc]]
      exact ⟨fun h => absurd h (by decide), fun h => absurd h hc⟩

/-- At most 128 tokens name the same expert, so a token's rank is below 128. -/
theorem rank_under (h0 : (fn (F := Ideal) x0 x1 x2 x3 x4).1 = fun _ => 1#1) (h1 : (fn (F := Ideal) x0 x1 x2 x3 x4).2.1 = fun _ => 1#1)
    (h2 : (fn (F := Ideal) x0 x1 x2 x3 x4).2.2 = fun _ => 1#1) (i : Fin 2048) : rank (fun i => x2 (ix2 i 0)) i < 128 := by
  obtain ⟨e, he⟩ := names x0 x1 x2 x3 x4 h0 h1 i
  have hl := rank_lt (fun i => x2 (ix2 i 0)) i
  have hc : IntOp.cmpi .sle (BitVec.ofNat 32 (total (fun i => x2 (ix2 i 0)) (BitVec.ofNat 32 e.val))) 128#32 = 1#1 := by
    have hf := congrFun h2 (ix1 e)
    unfold fn at hf
    dsimp only at hf
    exact (congrArg (fun w => IntOp.cmpi .sle w 128#32) (count_at x2 e)).symm.trans hf
  have ht : total (fun i => x2 (ix2 i 0)) (BitVec.ofNat 32 e.val) ≤ 2048 := by
    refine (Finset.card_le_univ _).trans (le_of_eq ?_)
    exact Fintype.card_fin 2048
  have hl' : rank (fun i => x2 (ix2 i 0)) i < total (fun i => x2 (ix2 i 0)) (BitVec.ofNat 32 e.val) := he ▸ hl
  generalize total (fun i => x2 (ix2 i 0)) (BitVec.ofNat 32 e.val) = n at hc ht hl'
  have a1 : (BitVec.ofNat 32 n).sle 128#32 = true := by
    by_contra h
    rw [Bool.not_eq_true] at h
    simp [IntOp.cmpi, h] at hc
  have b1 : (BitVec.ofNat 32 n).toInt ≤ 128 := by simpa [BitVec.sle] using a1
  have hn : (BitVec.ofNat 32 n).toNat = n := by rw [BitVec.toNat_ofNat]; omega
  rw [BitVec.toInt_eq_toNat_cond, hn] at b1
  split at b1 <;> omega

end Cert.Proof.Within

end
-- ==== Proof.Algebra.lean ====
/-
Over the reals each device's answer is its block of the reference's answer.
-/
module

public import proofs.«01_k».proof.Defs
public import proofs.«01_k».proof.Proof.Token
public import proofs.«01_k».proof.Proof.RefRead
public import proofs.«01_k».proof.Proof.Within
public import proofs.«01_k».proof.Proof.Gen.ReferenceIdeal.Run

@[expose] public section

set_option maxRecDepth 16384

noncomputable section

namespace Cert.Proof.Moe

open Cert.KernelIdeal Cert.KernelIdeal.Gen
open Idealize.ShloMosaic hiding ix1 ix2 ix3 ix4
open Idealize.ShloMosaic.TcCoe Idealize.ShloMosaic.ValueIdx Idealize.SL.Sem
open scoped BigOperators

/-- A device's token among all the tokens. -/
def among (c : Fin 4) (i : Fin 2048) : Fin 8192 := ⟨c.val * 2048 + i.val, by omega⟩

/-- A device's rows of an array cut by rows. -/
theorem rows_at {α : Type} {N : ℕ} (c : Fin 4) (v : (⟨2, ![8192, N]⟩ : Shape).Idx → α) (h : Layout.Tiles ⟨2, ![2048, N]⟩ ⟨2, ![8192, N]⟩ 0 4)
    (i : Fin 2048) (k : Fin N) : Layout.block ⟨2, ![2048, N]⟩ ⟨2, ![8192, N]⟩ 0 4 c v h (ix2 i k) = v (ix2 (among c i) k) := by
  rw [Layout.block_apply]
  refine congrArg v ?_
  funext a; match a with | ⟨0, _⟩ => rfl | ⟨1, _⟩ => rfl

/-- A device's experts of the array of all. -/
theorem experts_at {α : Type} (e : Fin 32) (v : (⟨3, ![32, 1024, 1024]⟩ : Shape).Idx → α)
    (h : Layout.Tiles ⟨3, ![8, 1024, 1024]⟩ ⟨3, ![32, 1024, 1024]⟩ 0 4) (f d : Fin 1024) :
    Layout.block ⟨3, ![8, 1024, 1024]⟩ ⟨3, ![32, 1024, 1024]⟩ 0 4 (home e) v h (ix3 (row e) f d) = v (ix3 e f d) := by
  rw [Layout.block_apply]
  refine congrArg v ?_
  funext a
  match a with
  | ⟨0, _⟩ =>
    apply Fin.ext
    show e.val / 8 * 8 + e.val % 8 = e.val
    omega
  | ⟨1, _⟩ => rfl
  | ⟨2, _⟩ => rfl

variable (m : (l : Loc nD τ sig) → Buf (Elt Ideal) l)
variable (X : FVec Ideal Cert.ReferenceIdeal.S8192x1024 .bf16) (W : FVec Ideal Cert.ReferenceIdeal.S1024x32 .bf16) (R : IVec Cert.ReferenceIdeal.S8192x1 32)
  (E : FVec Ideal Cert.ReferenceIdeal.S32x1024x1024 .bf16) (S : FVec Ideal Cert.ReferenceIdeal.S1024x1024 .bf16)

/-- A token's answer is the reference's for it. -/
theorem answers_at (t0 : Layout.Tiles ⟨2, ![2048, 1024]⟩ ⟨2, ![8192, 1024]⟩ 0 4) (t2 : Layout.Tiles ⟨2, ![2048, 1]⟩ ⟨2, ![8192, 1]⟩ 0 4)
    (t3 : Layout.Tiles ⟨3, ![8, 1024, 1024]⟩ ⟨3, ![32, 1024, 1024]⟩ 0 4)
    (hX : ∀ c : Dev nD, inX m c = Layout.block ⟨2, ![2048, 1024]⟩ ⟨2, ![8192, 1024]⟩ 0 4 c X t0)
    (hW : ∀ c : Dev nD, inR m c = W)
    (hR : ∀ c : Dev nD, words m c = fun i => Layout.block ⟨2, ![2048, 1]⟩ ⟨2, ![8192, 1]⟩ 0 4 c R t2 (ix2 i 0))
    (hE : ∀ c : Dev nD, inE m c = Layout.block ⟨3, ![8, 1024, 1024]⟩ ⟨3, ![32, 1024, 1024]⟩ 0 4 c E t3)
    (hS : ∀ c : Dev nD, inS m c = S) (c : Dev nD)
    (he : ∀ i, ∃ e : Fin 32, words m c i = BitVec.ofNat 32 e.val) (hr : ∀ i, rank (words m c) i < 128)
    (i : Fin 2048) (d : Fin 1024) :
    A17 m c main_v39 (ix2 i d) = Cert.ReferenceIdeal.Read.val_main_v29 (F := Ideal) X W R E S (ix2 (among c i) d) := by
  obtain ⟨e, h⟩ := he i
  have hR' : R (ix2 (among c i) 0) = BitVec.ofNat 32 e.val := by
    rw [← h, hR c]
    exact (rows_at c R t2 i 0).symm
  have hx : ∀ k : Fin 1024, inX m c (ix2 i k) = X (ix2 (among c i) k) := fun k => by rw [hX c]; exact rows_at c X t0 i k
  refine (token m c he hr i e h d).trans ?_
  refine Eq.trans ?_ (Whole.answer_at X W R E S (among c i) e hR' d).symm
  have hs : scoreK (inX m c) (inR m c) i = Whole.score X W (among c i) := by
    funext k
    refine Finset.sum_congr (M := EReal) rfl fun f _ => ?_
    rw [hx f, hW c]
  rw [hs]
  refine congrArg₂ (· + ·) (Finset.sum_congr (M := EReal) rfl fun k _ => ?_) (congrArg₂ (· * ·) rfl (Finset.sum_congr (M := EReal) rfl fun f _ => ?_))
  · rw [hx k, hS c]
  · rw [hx f, hE (home e), experts_at e E t3 f d]

/-- An array that agrees with a block at each pair of coordinates is the block. -/
theorem block_of (c : Fin 4) (y : FVec Ideal S2048x1024 .f32) (v : FVec Ideal Cert.ReferenceIdeal.S8192x1024 .f32)
    (t0 : Layout.Tiles ⟨2, ![2048, 1024]⟩ ⟨2, ![8192, 1024]⟩ 0 4) (h : ∀ i d, y (ix2 i d) = v (ix2 (among c i) d)) :
    y = Layout.block ⟨2, ![2048, 1024]⟩ ⟨2, ![8192, 1024]⟩ 0 4 c v t0 := by
  funext j
  obtain ⟨i, d, rfl⟩ : ∃ (i : Fin 2048) (d : Fin 1024), j = ix2 i d :=
    ⟨j 0, j 1, by funext a; match a with | ⟨0, _⟩ => rfl | ⟨1, _⟩ => rfl⟩
  exact (h i d).trans (rows_at c v t0 i d).symm

/-- A device's answer is its block of the reference's. -/
theorem answers (t0 : Layout.Tiles ⟨2, ![2048, 1024]⟩ ⟨2, ![8192, 1024]⟩ 0 4) (t2 : Layout.Tiles ⟨2, ![2048, 1]⟩ ⟨2, ![8192, 1]⟩ 0 4)
    (t3 : Layout.Tiles ⟨3, ![8, 1024, 1024]⟩ ⟨3, ![32, 1024, 1024]⟩ 0 4)
    (hX : ∀ c : Dev nD, inX m c = Layout.block ⟨2, ![2048, 1024]⟩ ⟨2, ![8192, 1024]⟩ 0 4 c X t0)
    (hW : ∀ c : Dev nD, inR m c = W)
    (hR : ∀ c : Dev nD, words m c = fun i => Layout.block ⟨2, ![2048, 1]⟩ ⟨2, ![8192, 1]⟩ 0 4 c R t2 (ix2 i 0))
    (hE : ∀ c : Dev nD, inE m c = Layout.block ⟨3, ![8, 1024, 1024]⟩ ⟨3, ![32, 1024, 1024]⟩ 0 4 c E t3)
    (hS : ∀ c : Dev nD, inS m c = S) (c : Dev nD)
    (he : ∀ i, ∃ e : Fin 32, words m c i = BitVec.ofNat 32 e.val) (hr : ∀ i, rank (words m c) i < 128) :
    A17 m c main_v39 = Layout.block ⟨2, ![2048, 1024]⟩ ⟨2, ![8192, 1024]⟩ 0 4 c (Cert.ReferenceIdeal.Read.val_main_v29 (F := Ideal) X W R E S) t0 :=
  block_of c _ _ t0 (answers_at m X W R E S t0 t2 t3 hX hW hR hE hS c he hr)

end Cert.Proof.Moe

namespace Cert.Proof

open Idealize.ShloMosaic Idealize.ShloMosaic.TcCoe Idealize.SL.Sem

/-- Of inputs within the capacity, the program over the reals leaves on each device its block of what the reference leaves,
and both keep their arguments. -/
theorem algebraic : Cert.algebraic_KernelIdeal_ReferenceIdeal_pre_routed_within_capacity_KernelIdeal := by
  intro m g m' g' hpre hagree
  refine ⟨Cert.ReferenceIdeal.Read.val_main_v29 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun _ h c => ⟨(h.1 c).2.2.2.2.2.trans ?_, (h.1 c).1, (h.1 c).2.1, (h.1 c).2.2.1, (h.1 c).2.2.2.1, (h.1 c).2.2.2.2.1⟩)
      (Moe.run_main (F := Ideal) m g)
    obtain ⟨p0, p1, p2⟩ := hpre c
    exact Moe.answers m _ _ _ _ _ (by decide) (by decide) (by decide) (fun c => (hagree c).1) (fun c => (hagree c).2.1)
      (fun c => funext fun i => congrFun (hagree c).2.2.1 (ValueIdx.ix2 i 0)) (fun c => (hagree c).2.2.2.1) (fun c => (hagree c).2.2.2.2) c
      (Within.names _ _ _ _ _ p0 p1) (Within.rank_under _ _ _ _ _ p0 p1 p2)
  · exact (θ_run Cert.ReferenceIdeal.defs _ _).mono (fun _ h => ⟨(h 0).1.trans (Cert.ReferenceIdeal.Read.val_main_v29_eq _ _ _ _ _), (h 0).2⟩)
      (Cert.ReferenceIdeal.Value.run (F := Ideal) m' g')

end Cert.Proof

end
-- ==== Proof.lean ====
/-
The claims together: the programs run, keep their arguments and leave every counter at zero, and over the reals each device
ends holding its block of the reference's answer.
-/
module

public import proofs.«01_k».proof.Defs
public import proofs.«01_k».proof.Proof.Frames
public import proofs.«01_k».proof.Proof.Algebra
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_routed_within_capacity_KernelIdeal
public import proofs.«01_k».proof.Proof.Gen.Pre_routed_within_capacity_ReferenceIdeal

@[expose] public section

noncomputable section

namespace Cert.Proof

open Idealize.ShloMosaic Idealize.SL.Sem Cert.Kernel

/-- Every claim, in order. A program that runs from any inputs runs from those within the capacity. -/
theorem claim : Cert.Claim := ⟨Cert.Kernel.Gen.facts, Cert.KernelIdeal.Gen.facts, Cert.ReferenceIdeal.Gen.facts,
  Cert.Pre_routed_within_capacity_KernelIdeal.Gen.facts, Cert.Pre_routed_within_capacity_ReferenceIdeal.Gen.facts,
  frame_kernel, frame_ideal, fun m g _ => frame_ideal m g trivial, frame_reference, fun m g _ => frame_reference m g trivial, trivial, algebraic⟩

end Cert.Proof

end
